-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x64x64 : Shape := ⟨3, ![64, 64, 64]⟩
abbrev S64x64 : Shape := ⟨2, ![64, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S64x128 : Shape := ⟨2, ![64, 128]⟩
abbrev S1x128 : Shape := ⟨2, ![1, 128]⟩
abbrev S1x1 : Shape := ⟨2, ![1, 1]⟩
abbrev S64x1x64 : Shape := ⟨3, ![64, 1, 64]⟩
abbrev S64x64x1 : Shape := ⟨3, ![64, 64, 1]⟩
abbrev S16x64x64 : Shape := ⟨3, ![16, 64, 64]⟩
abbrev S16x1x64 : Shape := ⟨3, ![16, 1, 64]⟩
abbrev S16x64x1 : Shape := ⟨3, ![16, 64, 1]⟩
abbrev S8x64 : Shape := ⟨2, ![8, 64]⟩
abbrev S1024x64 : Shape := ⟨2, ![1024, 64]⟩
abbrev S1024x128 : Shape := ⟨2, ![1024, 128]⟩
abbrev S16x64x1x128 : Shape := ⟨4, ![16, 64, 1, 128]⟩
abbrev S16x1x64x128 : Shape := ⟨4, ![16, 1, 64, 128]⟩
abbrev S16x64x64x128 : Shape := ⟨4, ![16, 64, 64, 128]⟩
abbrev S1x1x1x128 : Shape := ⟨4, ![1, 1, 1, 128]⟩
abbrev S128x8x64 : Shape := ⟨3, ![128, 8, 64]⟩
abbrev S1x8x64 : Shape := ⟨3, ![1, 8, 64]⟩
abbrev S1x1x1 : Shape := ⟨3, ![1, 1, 1]⟩
abbrev S64x4096 : Shape := ⟨2, ![64, 4096]⟩
abbrev S64x4095 : Shape := ⟨2, ![64, 4095]⟩
abbrev S64x63x65 : Shape := ⟨3, ![64, 63, 65]⟩
abbrev S64x63x64 : Shape := ⟨3, ![64, 63, 64]⟩
abbrev S258048x1 : Shape := ⟨2, ![258048, 1]⟩
abbrev S_ : Shape := ⟨0, ![]⟩

abbrev nBuf : Space → Nat
  | .hbm => 24
  | .vmem => 18
  | .smem => 2
  | _ => 0

abbrev bufTy : (tb : Table) → Fin (tcTables nBuf tb) → BufTy
  | .hbm, ⟨0, _⟩ => ⟨S64x64x64, .f32⟩
  | .hbm, ⟨1, _⟩ => ⟨S64x64, .i32⟩
  | .hbm, ⟨2, _⟩ => ⟨S64x64, .i32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S64x128, .f32⟩
  | .hbm, ⟨8, _⟩ => ⟨S64x128, .f32⟩
  | .hbm, ⟨9, _⟩ => ⟨S1x128, .f32⟩
  | .hbm, ⟨10, _⟩ => ⟨S1x128, .f32⟩
  | .hbm, ⟨11, _⟩ => ⟨S1x1, .f32⟩
  | .hbm, ⟨12, _⟩ => ⟨S64x1x64, .i32⟩
  | .hbm, ⟨13, _⟩ => ⟨S64x64x1, .i32⟩
  | .hbm, ⟨14, _⟩ => ⟨S64x1x64, .i32⟩
  | .hbm, ⟨15, _⟩ => ⟨S64x64x1, .i32⟩
  | .hbm, ⟨16, _⟩ => ⟨S64x64x64, .f32⟩
  | .hbm, ⟨17, _⟩ => ⟨S1x1, .f32⟩
  | .hbm, ⟨18, _⟩ => ⟨S64x4096, .f32⟩
  | .hbm, ⟨19, _⟩ => ⟨S64x4095, .f32⟩
  | .hbm, ⟨20, _⟩ => ⟨S64x63x65, .f32⟩
  | .hbm, ⟨21, _⟩ => ⟨S64x63x64, .f32⟩
  | .hbm, ⟨22, _⟩ => ⟨S258048x1, .f32⟩
  | .hbm, ⟨23, _⟩ => ⟨S_, .f32⟩
  | .local _ .vmem, ⟨0, _⟩ => ⟨S16x64x64, .f32⟩
  | .local _ .vmem, ⟨1, _⟩ => ⟨S16x64x64, .f32⟩
  | .local _ .vmem, ⟨2, _⟩ => ⟨S64x128, .f32⟩
  | .local _ .vmem, ⟨3, _⟩ => ⟨S64x128, .f32⟩
  | .local _ .vmem, ⟨4, _⟩ => ⟨S1x128, .f32⟩
  | .local _ .vmem, ⟨5, _⟩ => ⟨S1x128, .f32⟩
  | .local _ .vmem, ⟨6, _⟩ => ⟨S16x1x64, .i32⟩
  | .local _ .vmem, ⟨7, _⟩ => ⟨S16x1x64, .i32⟩
  | .local _ .vmem, ⟨8, _⟩ => ⟨S16x64x1, .i32⟩
  | .local _ .vmem, ⟨9, _⟩ => ⟨S16x64x1, .i32⟩
  | .local _ .vmem, ⟨10, _⟩ => ⟨S16x1x64, .i32⟩
  | .local _ .vmem, ⟨11, _⟩ => ⟨S16x1x64, .i32⟩
  | .local _ .vmem, ⟨12, _⟩ => ⟨S16x64x1, .i32⟩
  | .local _ .vmem, ⟨13, _⟩ => ⟨S16x64x1, .i32⟩
  | .local _ .vmem, ⟨14, _⟩ => ⟨S16x64x64, .f32⟩
  | .local _ .vmem, ⟨15, _⟩ => ⟨S16x64x64, .f32⟩
  | .local _ .vmem, ⟨16, _⟩ => ⟨S8x64, .f32⟩
  | .local _ .vmem, ⟨17, _⟩ => ⟨S8x64, .f32⟩
  | .local _ .smem, ⟨0, _⟩ => ⟨S1x1, .f32⟩
  | .local _ .smem, ⟨1, _⟩ => ⟨S1x1, .f32⟩
  | _, _ => ⟨S64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg5_0 : Ref sig .tc := ⟨.smem, 0, rfl⟩
abbrev cc0_stg11_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32_57 : BitVec 32 := 3#32
  let v120 : BitVec 1 := Scalar.cmpi .eq arg0 c3_i32_57
  let v121 : BitVec 32 := Scalar.extui v120
  let c0_i32_58 : BitVec 32 := 0#32
  let v122 : BitVec 1 := Scalar.cmpi .ne v121 c0_i32_58
  v122

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x1x64 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x64x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1x64 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x64x1 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .smem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S64x64x64 : Shape := ⟨3, ![64, 64, 64]⟩
abbrev S64x64 : Shape := ⟨2, ![64, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S4032 : Shape := ⟨1, ![4032]⟩
abbrev S_ : Shape := ⟨0, ![]⟩
abbrev S4032x1 : Shape := ⟨2, ![4032, 1]⟩
abbrev S1x1 : Shape := ⟨2, ![1, 1]⟩
abbrev S64x4032x64 : Shape := ⟨3, ![64, 4032, 64]⟩
abbrev S258048x64 : Shape := ⟨2, ![258048, 64]⟩
abbrev S258048x128 : Shape := ⟨2, ![258048, 128]⟩
abbrev S1x128 : Shape := ⟨2, ![1, 128]⟩
abbrev S258048x1 : Shape := ⟨2, ![258048, 1]⟩
abbrev S64x4032 : Shape := ⟨2, ![64, 4032]⟩
abbrev S258048 : Shape := ⟨1, ![258048]⟩

abbrev nBuf : Space → Nat
  | .hbm => 268
  | .vmem => 0
  | .smem => 0
  | _ => 0

abbrev hbmTy0_0 (i : Nat) : BufTy := match i % 128 with
  | 0 => ⟨S64x64x64, .f32⟩
  | 1 => ⟨S64x64, .i32⟩
  | 2 => ⟨S64x64, .i32⟩
  | 3 => ⟨S128x128, .f32⟩
  | 4 => ⟨S128, .f32⟩
  | 5 => ⟨S128x1, .f32⟩
  | 6 => ⟨S1, .f32⟩
  | 7 => ⟨S4032, .i32⟩
  | 8 => ⟨S4032, .i32⟩
  | 9 => ⟨S_, .i32⟩
  | 10 => ⟨S4032, .i32⟩
  | 11 => ⟨S4032, .i1⟩
  | 12 => ⟨S_, .i32⟩
  | 13 => ⟨S4032, .i32⟩
  | 14 => ⟨S4032, .i32⟩
  | 15 => ⟨S4032, .i32⟩
  | 16 => ⟨S4032x1, .i32⟩
  | 17 => ⟨S1, .i32⟩
  | 18 => ⟨S_, .i32⟩
  | 19 => ⟨S4032x1, .i32⟩
  | 20 => ⟨S4032x1, .i1⟩
  | 21 => ⟨S1x1, .i32⟩
  | 22 => ⟨S4032x1, .i32⟩
  | 23 => ⟨S4032x1, .i1⟩
  | 24 => ⟨S4032x1, .i1⟩
  | 25 => ⟨S_, .i1⟩
  | 26 => ⟨S4032, .i1⟩
  | 27 => ⟨S64x4032x64, .f32⟩
  | 28 => ⟨S64x4032x64, .i1⟩
  | 29 => ⟨S_, .f32⟩
  | 30 => ⟨S64x4032x64, .f32⟩
  | 31 => ⟨S64x4032x64, .f32⟩
  | 32 => ⟨S258048x64, .f32⟩
  | 33 => ⟨S_, .i32⟩
  | 34 => ⟨S4032, .i32⟩
  | 35 => ⟨S4032, .i1⟩
  | 36 => ⟨S_, .i32⟩
  | 37 => ⟨S4032, .i32⟩
  | 38 => ⟨S4032, .i32⟩
  | 39 => ⟨S4032, .i32⟩
  | 40 => ⟨S4032x1, .i32⟩
  | 41 => ⟨S1, .i32⟩
  | 42 => ⟨S_, .i32⟩
  | 43 => ⟨S4032x1, .i32⟩
  | 44 => ⟨S4032x1, .i1⟩
  | 45 => ⟨S1x1, .i32⟩
  | 46 => ⟨S4032x1, .i32⟩
  | 47 => ⟨S4032x1, .i1⟩
  | 48 => ⟨S4032x1, .i1⟩
  | 49 => ⟨S_, .i1⟩
  | 50 => ⟨S4032, .i1⟩
  | 51 => ⟨S64x4032x64, .f32⟩
  | 52 => ⟨S64x4032x64, .i1⟩
  | 53 => ⟨S_, .f32⟩
  | 54 => ⟨S64x4032x64, .f32⟩
  | 55 => ⟨S64x4032x64, .f32⟩
  | 56 => ⟨S258048x64, .f32⟩
  | 57 => ⟨S258048x128, .f32⟩
  | 58 => ⟨S258048x128, .f32⟩
  | 59 => ⟨S1x128, .f32⟩
  | 60 => ⟨S258048x128, .f32⟩
  | 61 => ⟨S258048x128, .f32⟩
  | 62 => ⟨S_, .f32⟩
  | 63 => ⟨S258048x128, .f32⟩
  | 64 => ⟨S258048x128, .f32⟩
  | 65 => ⟨S258048x1, .f32⟩
  | 66 => ⟨S1x1, .f32⟩
  | 67 => ⟨S258048x1, .f32⟩
  | 68 => ⟨S258048x1, .f32⟩
  | 69 => ⟨S_, .i32⟩
  | 70 => ⟨S4032, .i32⟩
  | 71 => ⟨S4032, .i1⟩
  | 72 => ⟨S_, .i32⟩
  | 73 => ⟨S4032, .i32⟩
  | 74 => ⟨S4032, .i32⟩
  | 75 => ⟨S4032, .i32⟩
  | 76 => ⟨S4032x1, .i32⟩
  | 77 => ⟨S1, .i32⟩
  | 78 => ⟨S_, .i32⟩
  | 79 => ⟨S4032x1, .i32⟩
  | 80 => ⟨S4032x1, .i1⟩
  | 81 => ⟨S1x1, .i32⟩
  | 82 => ⟨S4032x1, .i32⟩
  | 83 => ⟨S4032x1, .i1⟩
  | 84 => ⟨S4032x1, .i1⟩
  | 85 => ⟨S_, .i1⟩
  | 86 => ⟨S4032, .i1⟩
  | 87 => ⟨S64x4032, .i32⟩
  | 88 => ⟨S64x4032, .i1⟩
  | 89 => ⟨S_, .i32⟩
  | 90 => ⟨S64x4032, .i32⟩
  | 91 => ⟨S64x4032, .i32⟩
  | 92 => ⟨S_, .i32⟩
  | 93 => ⟨S4032, .i32⟩
  | 94 => ⟨S4032, .i1⟩
  | 95 => ⟨S_, .i32⟩
  | 96 => ⟨S4032, .i32⟩
  | 97 => ⟨S4032, .i32⟩
  | 98 => ⟨S4032, .i32⟩
  | 99 => ⟨S4032x1, .i32⟩
  | 100 => ⟨S1, .i32⟩
  | 101 => ⟨S_, .i32⟩
  | 102 => ⟨S4032x1, .i32⟩
  | 103 => ⟨S4032x1, .i1⟩
  | 104 => ⟨S1x1, .i32⟩
  | 105 => ⟨S4032x1, .i32⟩
  | 106 => ⟨S4032x1, .i1⟩
  | 107 => ⟨S4032x1, .i1⟩
  | 108 => ⟨S_, .i1⟩
  | 109 => ⟨S4032, .i1⟩
  | 110 => ⟨S64x4032, .i32⟩
  | 111 => ⟨S64x4032, .i1⟩
  | 112 => ⟨S_, .i32⟩
  | 113 => ⟨S64x4032, .i32⟩
  | 114 => ⟨S64x4032, .i32⟩
  | 115 => ⟨S64x4032, .i1⟩
  | 116 => ⟨S_, .i32⟩
  | 117 => ⟨S64x64, .i32⟩
  | 118 => ⟨S64x64, .i1⟩
  | 119 => ⟨S_, .i32⟩
  | 120 => ⟨S4032, .i32⟩
  | 121 => ⟨S4032, .i1⟩
  | 122 => ⟨S_, .i32⟩
  | 123 => ⟨S4032, .i32⟩
  | 124 => ⟨S4032, .i32⟩
  | 125 => ⟨S4032, .i32⟩
  | 126 => ⟨S4032x1, .i32⟩
  | 127 => ⟨S1, .i32⟩
  | _ => ⟨S64x64x64, .f32⟩

abbrev hbmTy0_1 (i : Nat) : BufTy := match i % 128 with
  | 0 => ⟨S_, .i32⟩
  | 1 => ⟨S4032x1, .i32⟩
  | 2 => ⟨S4032x1, .i1⟩
  | 3 => ⟨S1x1, .i32⟩
  | 4 => ⟨S4032x1, .i32⟩
  | 5 => ⟨S4032x1, .i1⟩
  | 6 => ⟨S4032x1, .i1⟩
  | 7 => ⟨S_, .i1⟩
  | 8 => ⟨S4032, .i1⟩
  | 9 => ⟨S64x4032, .i1⟩
  | 10 => ⟨S64x4032, .i1⟩
  | 11 => ⟨S_, .i1⟩
  | 12 => ⟨S64x4032, .i1⟩
  | 13 => ⟨S64x4032, .i1⟩
  | 14 => ⟨S_, .i32⟩
  | 15 => ⟨S4032, .i32⟩
  | 16 => ⟨S4032, .i1⟩
  | 17 => ⟨S_, .i32⟩
  | 18 => ⟨S4032, .i32⟩
  | 19 => ⟨S4032, .i32⟩
  | 20 => ⟨S4032, .i32⟩
  | 21 => ⟨S4032x1, .i32⟩
  | 22 => ⟨S1, .i32⟩
  | 23 => ⟨S_, .i32⟩
  | 24 => ⟨S4032x1, .i32⟩
  | 25 => ⟨S4032x1, .i1⟩
  | 26 => ⟨S1x1, .i32⟩
  | 27 => ⟨S4032x1, .i32⟩
  | 28 => ⟨S4032x1, .i1⟩
  | 29 => ⟨S4032x1, .i1⟩
  | 30 => ⟨S_, .i1⟩
  | 31 => ⟨S4032, .i1⟩
  | 32 => ⟨S64x4032, .i1⟩
  | 33 => ⟨S64x4032, .i1⟩
  | 34 => ⟨S_, .i1⟩
  | 35 => ⟨S64x4032, .i1⟩
  | 36 => ⟨S64x4032, .i1⟩
  | 37 => ⟨S64x4032, .i1⟩
  | 38 => ⟨S64x4032, .i1⟩
  | 39 => ⟨S64x4032, .i1⟩
  | 40 => ⟨S258048, .i1⟩
  | 41 => ⟨S258048, .f32⟩
  | 42 => ⟨S258048, .f32⟩
  | 43 => ⟨S_, .f32⟩
  | 44 => ⟨S258048, .f32⟩
  | 45 => ⟨S258048, .f32⟩
  | 46 => ⟨S258048, .f32⟩
  | 47 => ⟨S258048, .f32⟩
  | 48 => ⟨S258048, .f32⟩
  | 49 => ⟨S258048, .f32⟩
  | 50 => ⟨S258048, .f32⟩
  | 51 => ⟨S258048, .f32⟩
  | 52 => ⟨S258048, .f32⟩
  | 53 => ⟨S_, .i32⟩
  | 54 => ⟨S64x64, .i32⟩
  | 55 => ⟨S64x64, .i1⟩
  | 56 => ⟨S64x64, .i32⟩
  | 57 => ⟨S_, .i32⟩
  | 58 => ⟨S64x64, .i32⟩
  | 59 => ⟨S64x64, .i1⟩
  | 60 => ⟨S64x64, .i32⟩
  | 61 => ⟨S64x64, .i32⟩
  | 62 => ⟨S_, .i32⟩
  | 63 => ⟨S64x64, .i32⟩
  | 64 => ⟨S64x64, .i1⟩
  | 65 => ⟨S64x64, .i32⟩
  | 66 => ⟨S64x64, .i32⟩
  | 67 => ⟨S_, .i32⟩
  | 68 => ⟨S_, .i32⟩
  | 69 => ⟨S_, .i32⟩
  | 70 => ⟨S64x64, .i32⟩
  | 71 => ⟨S64x64, .i32⟩
  | 72 => ⟨S_, .i32⟩
  | 73 => ⟨S64x64, .i32⟩
  | 74 => ⟨S64x64, .i32⟩
  | 75 => ⟨S_, .i32⟩
  | 76 => ⟨S64x64, .i32⟩
  | 77 => ⟨S64x64, .i1⟩
  | 78 => ⟨S64x64, .i32⟩
  | 79 => ⟨S64x64, .i32⟩
  | 80 => ⟨S_, .i32⟩
  | 81 => ⟨S4032, .i32⟩
  | 82 => ⟨S4032, .i1⟩
  | 83 => ⟨S_, .i32⟩
  | 84 => ⟨S4032, .i32⟩
  | 85 => ⟨S4032, .i32⟩
  | 86 => ⟨S4032, .i32⟩
  | 87 => ⟨S4032x1, .i32⟩
  | 88 => ⟨S1, .i32⟩
  | 89 => ⟨S_, .i32⟩
  | 90 => ⟨S4032x1, .i32⟩
  | 91 => ⟨S4032x1, .i1⟩
  | 92 => ⟨S1x1, .i32⟩
  | 93 => ⟨S4032x1, .i32⟩
  | 94 => ⟨S4032x1, .i1⟩
  | 95 => ⟨S4032x1, .i1⟩
  | 96 => ⟨S_, .i1⟩
  | 97 => ⟨S4032, .i1⟩
  | 98 => ⟨S64x4032, .i32⟩
  | 99 => ⟨S64x4032, .i1⟩
  | 100 => ⟨S_, .i32⟩
  | 101 => ⟨S64x4032, .i32⟩
  | 102 => ⟨S64x4032, .i32⟩
  | 103 => ⟨S_, .i32⟩
  | 104 => ⟨S4032, .i32⟩
  | 105 => ⟨S4032, .i1⟩
  | 106 => ⟨S_, .i32⟩
  | 107 => ⟨S4032, .i32⟩
  | 108 => ⟨S4032, .i32⟩
  | 109 => ⟨S4032, .i32⟩
  | 110 => ⟨S4032x1, .i32⟩
  | 111 => ⟨S1, .i32⟩
  | 112 => ⟨S_, .i32⟩
  | 113 => ⟨S4032x1, .i32⟩
  | 114 => ⟨S4032x1, .i1⟩
  | 115 => ⟨S1x1, .i32⟩
  | 116 => ⟨S4032x1, .i32⟩
  | 117 => ⟨S4032x1, .i1⟩
  | 118 => ⟨S4032x1, .i1⟩
  | 119 => ⟨S_, .i1⟩
  | 120 => ⟨S4032, .i1⟩
  | 121 => ⟨S64x4032, .i32⟩
  | 122 => ⟨S64x4032, .i1⟩
  | 123 => ⟨S_, .i32⟩
  | 124 => ⟨S64x4032, .i32⟩
  | 125 => ⟨S64x4032, .i32⟩
  | 126 => ⟨S64x4032, .i32⟩
  | 127 => ⟨S258048, .i32⟩
  | _ => ⟨S64x64x64, .f32⟩

abbrev hbmTy0_2 (i : Nat) : BufTy := match i % 128 with
  | 0 => ⟨S_, .i32⟩
  | 1 => ⟨S258048, .i32⟩
  | 2 => ⟨S258048, .i32⟩
  | 3 => ⟨S258048, .f32⟩
  | 4 => ⟨S258048, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S64x64x64, .f32⟩

abbrev hbmTy (i : Nat) : BufTy := match i / 128 with
  | 0 => hbmTy0_0 i
  | 1 => hbmTy0_1 i
  | 2 => hbmTy0_2 i
  | _ => ⟨S64x64x64, .f32⟩

abbrev bufTy : (tb : Table) → Fin (tcTables nBuf tb) → BufTy
  | .hbm, ⟨i, _⟩ => hbmTy i
  | _, _ => ⟨S64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_call2_cst : Ref sig .tc := ⟨.hbm, 62, rfl⟩
abbrev main_call2_v0 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_call3_c : Ref sig .tc := ⟨.hbm, 69, rfl⟩
abbrev main_call3_v0 : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_c_1 : Ref sig .tc := ⟨.hbm, 77, rfl⟩
abbrev main_call3_c_2 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_3 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_call3_c_4 : Ref sig .tc := ⟨.hbm, 89, rfl⟩
abbrev main_call3_v15 : Ref sig .tc := ⟨.hbm, 90, rfl⟩
abbrev main_v14 : Ref sig .tc := ⟨.hbm, 91, rfl⟩
abbrev main_call4_c : Ref sig .tc := ⟨.hbm, 92, rfl⟩
abbrev main_call4_v0 : Ref sig .tc := ⟨.hbm, 93, rfl⟩
abbrev main_call4_v1 : Ref sig .tc := ⟨.hbm, 94, rfl⟩
abbrev main_call4_c_0 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_c_1 : Ref sig .tc := ⟨.hbm, 100, rfl⟩
abbrev main_call4_c_2 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_c_3 : Ref sig .tc := ⟨.hbm, 108, rfl⟩
abbrev main_call4_v12 : Ref sig .tc := ⟨.hbm, 109, rfl⟩
abbrev main_call4_v13 : Ref sig .tc := ⟨.hbm, 110, rfl⟩
abbrev main_call4_v14 : Ref sig .tc := ⟨.hbm, 111, rfl⟩
abbrev main_call4_c_4 : Ref sig .tc := ⟨.hbm, 112, rfl⟩
abbrev main_call4_v15 : Ref sig .tc := ⟨.hbm, 113, rfl⟩
abbrev main_v15 : Ref sig .tc := ⟨.hbm, 114, rfl⟩
abbrev main_v16 : Ref sig .tc := ⟨.hbm, 115, rfl⟩
abbrev main_c_1 : Ref sig .tc := ⟨.hbm, 116, rfl⟩
abbrev main_v17 : Ref sig .tc := ⟨.hbm, 117, rfl⟩
abbrev main_v18 : Ref sig .tc := ⟨.hbm, 118, rfl⟩
abbrev main_call5_c : Ref sig .tc := ⟨.hbm, 119, rfl⟩
abbrev main_call5_v0 : Ref sig .tc := ⟨.hbm, 120, rfl⟩
abbrev main_call5_v1 : Ref sig .tc := ⟨.hbm, 121, rfl⟩
abbrev main_call5_c_0 : Ref sig .tc := ⟨.hbm, 122, rfl⟩
abbrev main_call5_v2 : Ref sig .tc := ⟨.hbm, 123, rfl⟩
abbrev main_call5_v3 : Ref sig .tc := ⟨.hbm, 124, rfl⟩
abbrev main_call5_v4 : Ref sig .tc := ⟨.hbm, 125, rfl⟩
abbrev main_call5_v5 : Ref sig .tc := ⟨.hbm, 126, rfl⟩
abbrev main_call5_c_1 : Ref sig .tc := ⟨.hbm, 127, rfl⟩
abbrev main_call5_c_2 : Ref sig .tc := ⟨.hbm, 128, rfl⟩
abbrev main_call5_v6 : Ref sig .tc := ⟨.hbm, 129, rfl⟩
abbrev main_call5_v7 : Ref sig .tc := ⟨.hbm, 130, rfl⟩
abbrev main_call5_v8 : Ref sig .tc := ⟨.hbm, 131, rfl⟩
abbrev main_call5_v9 : Ref sig .tc := ⟨.hbm, 132, rfl⟩
abbrev main_call5_v10 : Ref sig .tc := ⟨.hbm, 133, rfl⟩
abbrev main_call5_v11 : Ref sig .tc := ⟨.hbm, 134, rfl⟩
abbrev main_call5_c_3 : Ref sig .tc := ⟨.hbm, 135, rfl⟩
abbrev main_call5_v12 : Ref sig .tc := ⟨.hbm, 136, rfl⟩
abbrev main_call5_v13 : Ref sig .tc := ⟨.hbm, 137, rfl⟩
abbrev main_call5_v14 : Ref sig .tc := ⟨.hbm, 138, rfl⟩
abbrev main_call5_c_4 : Ref sig .tc := ⟨.hbm, 139, rfl⟩
abbrev main_call5_v15 : Ref sig .tc := ⟨.hbm, 140, rfl⟩
abbrev main_v19 : Ref sig .tc := ⟨.hbm, 141, rfl⟩
abbrev main_call6_c : Ref sig .tc := ⟨.hbm, 142, rfl⟩
abbrev main_call6_v0 : Ref sig .tc := ⟨.hbm, 143, rfl⟩
abbrev main_call6_v1 : Ref sig .tc := ⟨.hbm, 144, rfl⟩
abbrev main_call6_c_0 : Ref sig .tc := ⟨.hbm, 145, rfl⟩
abbrev main_call6_v2 : Ref sig .tc := ⟨.hbm, 146, rfl⟩
abbrev main_call6_v3 : Ref sig .tc := ⟨.hbm, 147, rfl⟩
abbrev main_call6_v4 : Ref sig .tc := ⟨.hbm, 148, rfl⟩
abbrev main_call6_v5 : Ref sig .tc := ⟨.hbm, 149, rfl⟩
abbrev main_call6_c_1 : Ref sig .tc := ⟨.hbm, 150, rfl⟩
abbrev main_call6_c_2 : Ref sig .tc := ⟨.hbm, 151, rfl⟩
abbrev main_call6_v6 : Ref sig .tc := ⟨.hbm, 152, rfl⟩
abbrev main_call6_v7 : Ref sig .tc := ⟨.hbm, 153, rfl⟩
abbrev main_call6_v8 : Ref sig .tc := ⟨.hbm, 154, rfl⟩
abbrev main_call6_v9 : Ref sig .tc := ⟨.hbm, 155, rfl⟩
abbrev main_call6_v10 : Ref sig .tc := ⟨.hbm, 156, rfl⟩
abbrev main_call6_v11 : Ref sig .tc := ⟨.hbm, 157, rfl⟩
abbrev main_call6_c_3 : Ref sig .tc := ⟨.hbm, 158, rfl⟩
abbrev main_call6_v12 : Ref sig .tc := ⟨.hbm, 159, rfl⟩
abbrev main_call6_v13 : Ref sig .tc := ⟨.hbm, 160, rfl⟩
abbrev main_call6_v14 : Ref sig .tc := ⟨.hbm, 161, rfl⟩
abbrev main_call6_c_4 : Ref sig .tc := ⟨.hbm, 162, rfl⟩
abbrev main_call6_v15 : Ref sig .tc := ⟨.hbm, 163, rfl⟩
abbrev main_v20 : Ref sig .tc := ⟨.hbm, 164, rfl⟩
abbrev main_v21 : Ref sig .tc := ⟨.hbm, 165, rfl⟩
abbrev main_v22 : Ref sig .tc := ⟨.hbm, 166, rfl⟩
abbrev main_v23 : Ref sig .tc := ⟨.hbm, 167, rfl⟩
abbrev main_v24 : Ref sig .tc := ⟨.hbm, 168, rfl⟩
abbrev main_v25 : Ref sig .tc := ⟨.hbm, 169, rfl⟩
abbrev main_v26 : Ref sig .tc := ⟨.hbm, 170, rfl⟩
abbrev main_cst : Ref sig .tc := ⟨.hbm, 171, rfl⟩
abbrev main_v27 : Ref sig .tc := ⟨.hbm, 172, rfl⟩
abbrev main_v28 : Ref sig .tc := ⟨.hbm, 173, rfl⟩
abbrev main_v29 : Ref sig .tc := ⟨.hbm, 174, rfl⟩
abbrev main_v30 : Ref sig .tc := ⟨.hbm, 175, rfl⟩
abbrev main_v31 : Ref sig .tc := ⟨.hbm, 176, rfl⟩
abbrev main_v32 : Ref sig .tc := ⟨.hbm, 177, rfl⟩
abbrev main_v33 : Ref sig .tc := ⟨.hbm, 178, rfl⟩
abbrev main_v34 : Ref sig .tc := ⟨.hbm, 179, rfl⟩
abbrev main_v35 : Ref sig .tc := ⟨.hbm, 180, rfl⟩
abbrev main_c_2 : Ref sig .tc := ⟨.hbm, 181, rfl⟩
abbrev main_v36 : Ref sig .tc := ⟨.hbm, 182, rfl⟩
abbrev main_v37 : Ref sig .tc := ⟨.hbm, 183, rfl⟩
abbrev main_v38 : Ref sig .tc := ⟨.hbm, 184, rfl⟩
abbrev main_c_3 : Ref sig .tc := ⟨.hbm, 185, rfl⟩
abbrev main_v39 : Ref sig .tc := ⟨.hbm, 186, rfl⟩
abbrev main_v40 : Ref sig .tc := ⟨.hbm, 187, rfl⟩
abbrev main_v41 : Ref sig .tc := ⟨.hbm, 188, rfl⟩
abbrev main_v42 : Ref sig .tc := ⟨.hbm, 189, rfl⟩
abbrev main_c_4 : Ref sig .tc := ⟨.hbm, 190, rfl⟩
abbrev main_v43 : Ref sig .tc := ⟨.hbm, 191, rfl⟩
abbrev main_v44 : Ref sig .tc := ⟨.hbm, 192, rfl⟩
abbrev main_v45 : Ref sig .tc := ⟨.hbm, 193, rfl⟩
abbrev main_v46 : Ref sig .tc := ⟨.hbm, 194, rfl⟩
abbrev main_c_5 : Ref sig .tc := ⟨.hbm, 195, rfl⟩
abbrev main_c_6 : Ref sig .tc := ⟨.hbm, 196, rfl⟩
abbrev main_call7_v0 : Ref sig .tc := ⟨.hbm, 197, rfl⟩
abbrev main_call7_v1 : Ref sig .tc := ⟨.hbm, 198, rfl⟩
abbrev main_call7_v2 : Ref sig .tc := ⟨.hbm, 199, rfl⟩
abbrev main_call7_v3 : Ref sig .tc := ⟨.hbm, 200, rfl⟩
abbrev main_call7_v4 : Ref sig .tc := ⟨.hbm, 201, rfl⟩
abbrev main_v47 : Ref sig .tc := ⟨.hbm, 202, rfl⟩
abbrev main_c_7 : Ref sig .tc := ⟨.hbm, 203, rfl⟩
abbrev main_v48 : Ref sig .tc := ⟨.hbm, 204, rfl⟩
abbrev main_v49 : Ref sig .tc := ⟨.hbm, 205, rfl⟩
abbrev main_v50 : Ref sig .tc := ⟨.hbm, 206, rfl⟩
abbrev main_v51 : Ref sig .tc := ⟨.hbm, 207, rfl⟩
abbrev main_call8_c : Ref sig .tc := ⟨.hbm, 208, rfl⟩
abbrev main_call8_v0 : Ref sig .tc := ⟨.hbm, 209, rfl⟩
abbrev main_call8_v1 : Ref sig .tc := ⟨.hbm, 210, rfl⟩
abbrev main_call8_c_0 : Ref sig .tc := ⟨.hbm, 211, rfl⟩
abbrev main_call8_v2 : Ref sig .tc := ⟨.hbm, 212, rfl⟩
abbrev main_call8_v3 : Ref sig .tc := ⟨.hbm, 213, rfl⟩
abbrev main_call8_v4 : Ref sig .tc := ⟨.hbm, 214, rfl⟩
abbrev main_call8_v5 : Ref sig .tc := ⟨.hbm, 215, rfl⟩
abbrev main_call8_c_1 : Ref sig .tc := ⟨.hbm, 216, rfl⟩
abbrev main_call8_c_2 : Ref sig .tc := ⟨.hbm, 217, rfl⟩
abbrev main_call8_v6 : Ref sig .tc := ⟨.hbm, 218, rfl⟩
abbrev main_call8_v7 : Ref sig .tc := ⟨.hbm, 219, rfl⟩
abbrev main_call8_v8 : Ref sig .tc := ⟨.hbm, 220, rfl⟩
abbrev main_call8_v9 : Ref sig .tc := ⟨.hbm, 221, rfl⟩
abbrev main_call8_v10 : Ref sig .tc := ⟨.hbm, 222, rfl⟩
abbrev main_call8_v11 : Ref sig .tc := ⟨.hbm, 223, rfl⟩
abbrev main_call8_c_3 : Ref sig .tc := ⟨.hbm, 224, rfl⟩
abbrev main_call8_v12 : Ref sig .tc := ⟨.hbm, 225, rfl⟩
abbrev main_call8_v13 : Ref sig .tc := ⟨.hbm, 226, rfl⟩
abbrev main_call8_v14 : Ref sig .tc := ⟨.hbm, 227, rfl⟩
abbrev main_call8_c_4 : Ref sig .tc := ⟨.hbm, 228, rfl⟩
abbrev main_call8_v15 : Ref sig .tc := ⟨.hbm, 229, rfl⟩
abbrev main_v52 : Ref sig .tc := ⟨.hbm, 230, rfl⟩
abbrev main_call9_c : Ref sig .tc := ⟨.hbm, 231, rfl⟩
abbrev main_call9_v0 : Ref sig .tc := ⟨.hbm, 232, rfl⟩
abbrev main_call9_v1 : Ref sig .tc := ⟨.hbm, 233, rfl⟩
abbrev main_call9_c_0 : Ref sig .tc := ⟨.hbm, 234, rfl⟩
abbrev main_call9_v2 : Ref sig .tc := ⟨.hbm, 235, rfl⟩
abbrev main_call9_v3 : Ref sig .tc := ⟨.hbm, 236, rfl⟩
abbrev main_call9_v4 : Ref sig .tc := ⟨.hbm, 237, rfl⟩
abbrev main_call9_v5 : Ref sig .tc := ⟨.hbm, 238, rfl⟩
abbrev main_call9_c_1 : Ref sig .tc := ⟨.hbm, 239, rfl⟩
abbrev main_call9_c_2 : Ref sig .tc := ⟨.hbm, 240, rfl⟩
abbrev main_call9_v6 : Ref sig .tc := ⟨.hbm, 241, rfl⟩
abbrev main_call9_v7 : Ref sig .tc := ⟨.hbm, 242, rfl⟩
abbrev main_call9_v8 : Ref sig .tc := ⟨.hbm, 243, rfl⟩
abbrev main_call9_v9 : Ref sig .tc := ⟨.hbm, 244, rfl⟩
abbrev main_call9_v10 : Ref sig .tc := ⟨.hbm, 245, rfl⟩
abbrev main_call9_v11 : Ref sig .tc := ⟨.hbm, 246, rfl⟩
abbrev main_call9_c_3 : Ref sig .tc := ⟨.hbm, 247, rfl⟩
abbrev main_call9_v12 : Ref sig .tc := ⟨.hbm, 248, rfl⟩
abbrev main_call9_v13 : Ref sig .tc := ⟨.hbm, 249, rfl⟩
abbrev main_call9_v14 : Ref sig .tc := ⟨.hbm, 250, rfl⟩
abbrev main_call9_c_4 : Ref sig .tc := ⟨.hbm, 251, rfl⟩
abbrev main_call9_v15 : Ref sig .tc := ⟨.hbm, 252, rfl⟩
abbrev main_v53 : Ref sig .tc := ⟨.hbm, 253, rfl⟩
abbrev main_v54 : Ref sig .tc := ⟨.hbm, 254, rfl⟩
abbrev main_v55 : Ref sig .tc := ⟨.hbm, 255, rfl⟩
abbrev main_c_8 : Ref sig .tc := ⟨.hbm, 256, rfl⟩
abbrev main_v56 : Ref sig .tc := ⟨.hbm, 257, rfl⟩
abbrev main_v57 : Ref sig .tc := ⟨.hbm, 258, rfl⟩
abbrev main_v58 : Ref sig .tc := ⟨.hbm, 259, rfl⟩
abbrev main_v59 : Ref sig .tc := ⟨.hbm, 260, rfl⟩
abbrev main_cst_9 : Ref sig .tc := ⟨.hbm, 261, rfl⟩
abbrev main_v60 : Ref sig .tc := ⟨.hbm, 262, rfl⟩
abbrev main_cst_10 : Ref sig .tc := ⟨.hbm, 263, rfl⟩
abbrev main_v61 : Ref sig .tc := ⟨.hbm, 264, rfl⟩
abbrev main_v62 : Ref sig .tc := ⟨.hbm, 265, rfl⟩
abbrev main_cst_11 : Ref sig .tc := ⟨.hbm, 266, rfl⟩
abbrev main_v63 : Ref sig .tc := ⟨.hbm, 267, rfl⟩

abbrev nD : Nat := 1
abbrev τ : Topo := Topo.v7x

variable {F : FTy → Type} [FloatOps F]
-- ==== Proof.Spec.lean ====
/-
  The pairwise model on extended reals, over the argument arrays: the score of an ordered pair of rows of one batch
  element, whether the pair's labels match, the weight of the pair, and the pair's weighted loss.
-/
module

public import Idealize.ShloMosaic.Lib.Pointwise

@[expose] public section

noncomputable section

namespace Cert.PairModel

open Idealize.ShloMosaic

/-- The rows: batch, position, feature. -/
abbrev Rows : Type := FVec Ideal ⟨3, ![64, 64, 64]⟩ .f32
/-- A word for each batch element and position. -/
abbrev Words : Type := IVec ⟨2, ![64, 64]⟩ 32
/-- The first layer's weights. -/
abbrev Inner : Type := FVec Ideal ⟨2, ![128, 128]⟩ .f32
/-- The first layer's offsets. -/
abbrev Offs : Type := FVec Ideal ⟨1, ![128]⟩ .f32
/-- The second layer's weights. -/
abbrev Outer : Type := FVec Ideal ⟨2, ![128, 1]⟩ .f32
/-- The second layer's offset. -/
abbrev One : Type := FVec Ideal ⟨1, ![1]⟩ .f32

/-- The first layer's weight that a left feature meets. -/
def lo (d : Fin 64) : Fin 128 := ⟨d.val, by omega⟩
/-- The first layer's weight that a right feature meets. -/
def hi (d : Fin 64) : Fin 128 := ⟨d.val + 64, by omega⟩

/-- The score of the pair `(i, j)` of batch element `b`. -/
def score (X : Rows) (W : Inner) (p : Offs) (U : Outer) (q : One) (b i j : Fin 64) : EReal :=
  (∑ h : Fin 128, max ((∑ d : Fin 64, X (ix3 b i d) * W (ix2 (lo d) h))
    + ((∑ d : Fin 64, X (ix3 b j d) * W (ix2 (hi d) h)) + p (ix1 h))) 0 * U (ix2 h 0)) + q (ix1 0)

/-- Two labels match: equal, and neither below zero. -/
def same (a b : BitVec 32) : BitVec 1 :=
  IntOp.andi (IntOp.cmpi .eq a b) (IntOp.xori (IntOp.ori (IntOp.cmpi .slt a 0#32) (IntOp.cmpi .slt b 0#32)) 1#1)

/-- The match of a pair as a number. -/
def hit (L : Words) (b i j : Fin 64) : EReal := Scalar.select (same (L (ix2 b i)) (L (ix2 b j))) (1 : EReal) 0

/-- The role of an origin: one for three, four and five, minus one for one, zero otherwise. -/
def role (o : BitVec 32) : BitVec 32 :=
  IntOp.subi (BitVec.setWidth 32 (IntOp.ori (IntOp.ori (IntOp.cmpi .eq o 3#32) (IntOp.cmpi .eq o 4#32)) (IntOp.cmpi .eq o 5#32)))
    (BitVec.setWidth 32 (IntOp.cmpi .eq o 1#32))

/-- A pair's weighted loss, from its score, its match and the two origins. -/
def cost (s y : EReal) (o o' : BitVec 32) : EReal :=
  ((max s 0 - s * y) + Ideal.log1p (Ideal.exp (0 - FloatOps.absf (F := Ideal) (φ := .f32) s)))
    * FloatOps.sitofp (F := Ideal) .f32 (IntOp.addi 1#32 (IntOp.andi (role o) (role o')))

/-- The weighted loss of the pair `(i, j)` of batch element `b`. -/
def loss (X : Rows) (L O : Words) (W : Inner) (p : Offs) (U : Outer) (q : One) (b i j : Fin 64) : EReal :=
  cost (score X W p U q b i j) (hit L b i j) (O (ix2 b i)) (O (ix2 b j))

/-- The sum over the ordered pairs of different positions, of all batch elements. -/
def total (f : Fin 64 → Fin 64 → Fin 64 → EReal) : EReal :=
  ∑ b : Fin 64, ∑ i : Fin 64, ∑ k : Fin 63, f b i (i.succAbove k)

end Cert.PairModel

end
-- ==== Proof.Sums.lean ====
/-
  Sums over the pairs of positions, laid out in the orders in which the two programs take them.
-/
module

public import proofs.«01_k».proof.Proof.Spec

@[expose] public section

noncomputable section

namespace Cert.PairModel

open Idealize.ShloMosaic

/-- The batch element of row `x` of point `t`. -/
def batchOf {n : Nat} (hn : n = 4) (t : Fin n) (x : Fin 128) : Fin 64 := ⟨t.val * 16 + x.val / 8, by omega⟩
/-- The position of sublane `s` of row `x`. -/
def placeOf (x : Fin 128) (s : Fin 8) : Fin 64 := ⟨x.val % 8 * 8 + s.val, by omega⟩

/-- Points, rows and sublanes name each batch element and position once. -/
theorem layout_bijective : Function.Bijective
    (fun p : Fin 8 × Fin 4 × Fin 128 => (batchOf rfl p.2.1 p.2.2, placeOf p.2.2 p.1)) := by
  refine (Fintype.bijective_iff_injective_and_card _).2 ⟨?_, by simp⟩
  rintro ⟨s, t, x⟩ ⟨s', t', x'⟩ h
  have h1 := congrArg (fun q => q.1.val) h
  have h2 := congrArg (fun q => q.2.val) h
  simp only [batchOf, placeOf] at h1 h2
  have e1 : s.val = s'.val := by omega
  have e2 : t.val = t'.val := by omega
  have e3 : x.val = x'.val := by omega
  rw [Fin.ext e1, Fin.ext e2, Fin.ext e3]

/-- The sum over sublanes and lanes of the points' row sums is the sum over batch elements and pairs. -/
theorem sum_layout {n : Nat} (hn : n = 4) (g : Fin 64 → Fin 64 → Fin 64 → EReal) :
    (∑ s : Fin 8, ∑ l : Fin 64, ∑ t : Fin n, ∑ x : Fin 128, g (batchOf hn t x) (placeOf x s) l)
      = ∑ b : Fin 64, ∑ i : Fin 64, ∑ l : Fin 64, g b i l := by
  subst hn
  have hl : ∀ l : Fin 64, (∑ s : Fin 8, ∑ t : Fin 4, ∑ x : Fin 128, g (batchOf rfl t x) (placeOf x s) l)
      = ∑ q : Fin 64 × Fin 64, g q.1 q.2 l := by
    intro l
    rw [← Fintype.sum_bijective _ layout_bijective
      (fun p => g (batchOf rfl p.2.1 p.2.2) (placeOf p.2.2 p.1) l) (fun q => g q.1 q.2 l) (fun _ => rfl)]
    simp only [Fintype.sum_prod_type]
  rw [Finset.sum_comm, Finset.sum_congr rfl fun l _ => hl l, Finset.sum_comm]
  simp only [Fintype.sum_prod_type]

/-- Leaving out the pair of a position with itself. -/
theorem sum_off (i : Fin 64) (f : Fin 64 → EReal) :
    (∑ l : Fin 64, if i = l then 0 else f l) = ∑ k : Fin 63, f (i.succAbove k) := by
  rw [Fin.sum_univ_succAbove _ i, if_pos rfl, zero_add]
  exact Finset.sum_congr rfl fun k _ => if_neg (Fin.succAbove_ne i k).symm

/-- So the points' row sums without the diagonal make the total over ordered pairs. -/
theorem sum_layout_off {n : Nat} (hn : n = 4) (f : Fin 64 → Fin 64 → Fin 64 → EReal) :
    (∑ s : Fin 8, ∑ l : Fin 64, ∑ t : Fin n, ∑ x : Fin 128,
        if placeOf x s = l then 0 else f (batchOf hn t x) (placeOf x s) l) = total f := by
  rw [sum_layout hn fun b i l => if i = l then 0 else f b i l]
  exact Finset.sum_congr rfl fun b _ => Finset.sum_congr rfl fun i _ => sum_off i _

/-- Flat pair index: the batch element. -/
def flatB (r : Fin 258048) : Fin 64 := ⟨r.val / 4032, by omega⟩
/-- Flat pair index: the number of the pair. -/
def flatP (r : Fin 258048) : Fin 4032 := ⟨r.val % 4032, by omega⟩
/-- The left position of pair number `p`. -/
def leftOf (p : Fin 4032) : Fin 64 := ⟨p.val / 63, by omega⟩
/-- The right position of pair number `p`: the left one is left out. -/
def rightOf (p : Fin 4032) : Fin 64 :=
  ⟨p.val % 63 + if p.val / 63 ≤ p.val % 63 then 1 else 0, by split <;> omega⟩

/-- The right position is the left one's complement at the remainder. -/
theorem rightOf_eq (i : Fin 64) (k : Fin 63) (h : i.val * 63 + k.val < 4032) :
    rightOf ⟨i.val * 63 + k.val, h⟩ = i.succAbove k := by
  have e1 : (i.val * 63 + k.val) / 63 = i.val := by omega
  have e2 : (i.val * 63 + k.val) % 63 = k.val := by omega
  apply Fin.ext
  simp only [rightOf, e1, e2, Fin.succAbove, Fin.lt_def, Fin.val_castSucc]
  split <;> split <;> simp <;> omega

/-- The flat sum is the total over ordered pairs. -/
theorem sum_flat (f : Fin 64 → Fin 64 → Fin 64 → EReal) :
    (∑ r : Fin 258048, f (flatB r) (leftOf (flatP r)) (rightOf (flatP r))) = total f := by
  have hb : Function.Bijective (fun p : Fin 64 × Fin 64 × Fin 63 =>
      (⟨p.1.val * 4032 + (p.2.1.val * 63 + p.2.2.val), by have := p.1.isLt; have := p.2.1.isLt; have := p.2.2.isLt; omega⟩ : Fin 258048)) := by
    refine (Fintype.bijective_iff_injective_and_card _).2 ⟨?_, by simp⟩
    rintro ⟨b, i, k⟩ ⟨b', i', k'⟩ h
    have h1 := congrArg Fin.val h
    simp only at h1
    have e1 : b.val = b'.val := by omega
    have e2 : i.val = i'.val := by omega
    have e3 : k.val = k'.val := by omega
    rw [Fin.ext e1, Fin.ext e2, Fin.ext e3]
  rw [← Fintype.sum_bijective _ hb (fun p => f p.1 p.2.1 (p.2.1.succAbove p.2.2)) _ ?_]
  · simp only [Fintype.sum_prod_type, total]
  · rintro ⟨b, i, k⟩
    have e1 : flatB ⟨b.val * 4032 + (i.val * 63 + k.val), by omega⟩ = b := Fin.ext (by simp only [flatB]; omega)
    have e2 : flatP ⟨b.val * 4032 + (i.val * 63 + k.val), by omega⟩ = ⟨i.val * 63 + k.val, by omega⟩ :=
      Fin.ext (by simp only [flatP]; omega)
    have e3 : leftOf ⟨i.val * 63 + k.val, by omega⟩ = i := Fin.ext (by simp only [leftOf]; omega)
    simp only [e1, e2, e3, rightOf_eq]

end Cert.PairModel

end
-- ==== Proof.Take.lean ====
/-
  The reference's gathers: reading a column of positions off a table of positions.
-/
module

public import proofs.«01_k».proof.Proof.Gen.ReferenceIdeal
public import proofs.«01_k».proof.Proof.Sums
public import Idealize.ShloMosaic.Lib.ReduceAll

@[expose] public section

set_option maxRecDepth 16384

noncomputable section

namespace Cert.ReferenceIdeal.Pairs

open Cert.ReferenceIdeal Cert.ReferenceIdeal.Gen Idealize.ShloMosaic Idealize.SL.Sem Cert.PairModel

/-- A table's words made positions: below zero, sixty-four is added. -/
def wrap (c : IVec S4032 32) : IVec S4032x1 32 :=
  broadcastInDim S4032x1 ![0] bcast_S4032_S4032x1_0 (select (cmpi .slt c (broadcastInDim S4032 ![] bcast_S_S4032 (constantI S_ 32 0#32))) (addi c (broadcastInDim S4032 ![] bcast_S_S4032 (constantI S_ 32 64#32))) c)

/-- Whether every position of a table is one of the operand. -/
def inside (v : IVec S4032x1 32) : IVec S4032 1 :=
  Host.reduce IntOp.andi (andi (cmpi .sge v (broadcastInDim S4032x1 ![] bcast_S_S4032x1 (constantI S_ 32 0#32))) (cmpi .sle v (broadcastInDim S4032x1 ![0, 1] bcast_S1x1_S4032x1_0_1 (broadcastInDim S1x1 ![1] bcast_S1_S1x1_1 (constantI S1 32 63#32))))) (constantI S_ 1 1#1) reducesTo_S4032x1_S4032_d1 h_S_

/-- A position below sixty-four is not below zero as a word. -/
theorem wrap_word : ∀ k : Fin 64, Scalar.select (IntOp.cmpi .slt (BitVec.ofNat 32 k.val) 0#32)
    (IntOp.addi (BitVec.ofNat 32 k.val) 64#32) (BitVec.ofNat 32 k.val) = BitVec.ofNat 32 k.val := by decide +kernel

/-- A table of positions is unchanged. -/
theorem wrap_at (c : IVec S4032 32) (k : Fin 4032 → Fin 64) (hc : ∀ p, c (ix1 p) = BitVec.ofNat 32 (k p).val) (p : Fin 4032) (z : Fin 1) :
    wrap c (ix2 p z) = BitVec.ofNat 32 (k p).val := by
  pointwise [wrap]
  rw [hc p, wrap_word]

/-- A position below sixty-four is in range as a word. -/
theorem inside_word : ∀ k : Fin 64, IntOp.andi (IntOp.cmpi .sge (BitVec.ofNat 32 k.val) 0#32)
    (IntOp.cmpi .sle (BitVec.ofNat 32 k.val) 63#32) = 1#1 := by decide +kernel

/-- Every position of a table of positions is in range. -/
theorem inside_at (c : IVec S4032 32) (k : Fin 4032 → Fin 64) (hc : ∀ p, c (ix1 p) = BitVec.ofNat 32 (k p).val) (p : Fin 4032) :
    inside (wrap c) (ix1 p) = 1#1 := by
  refine Host.reduce_andi_one _ _ _ _ _ rfl fun i => ?_
  have hw : wrap c i = BitVec.ofNat 32 (k (i 0)).val := (congrArg (wrap c) (eq_ix2 i)).trans (wrap_at c k hc _ _)
  pointwise []
  rw [hw, inside_word]

/-- A position's word, read signed and clamped, is the position. -/
theorem clamp_word : ∀ k : Fin 64, min (BitVec.ofNat 32 k.val).toInt.toNat 63 + 0 + 0 = k.val := by decide +kernel

/-- The gather of rows reads the table's column. -/
theorem gather_rows {α : Type} (x : S64x64x64.Idx → α) (v : IVec S4032x1 32) (k : Fin 4032 → Fin 64)
    (hv : ∀ p z, v (ix2 p z) = BitVec.ofNat 32 (k p).val) (b : Fin 64) (p : Fin 4032) (d : Fin 64) :
    Host.gather gather_S64x64x64_S4032x1_S64x4032x64_02_1_n_n_1_1_64164 x v (ix3 b p d) = x (ix3 b (k p) d) := by
  refine congrArg x ?_
  funext a
  refine Fin.ext ?_
  match a with
  | ⟨0, _⟩ =>
    show 0 + 0 + b.val = b.val
    omega
  | ⟨1, _⟩ =>
    show min (v (GatherDims.siIdx _ _ _)).toInt.toNat 63 + 0 + 0 = (k p).val
    refine Eq.trans (congrArg (fun u : BitVec 32 => min u.toInt.toNat 63 + 0 + 0) ?_) (clamp_word (k p))
    refine (congrArg v ?_).trans (hv p 0)
    funext e
    match e with
    | ⟨0, _⟩ => rfl
    | ⟨1, _⟩ => exact Subsingleton.elim (α := Fin 1) _ _
  | ⟨2, _⟩ =>
    show 0 + 0 + d.val = d.val
    omega

/-- The gather of words reads the table's column. -/
theorem gather_words {α : Type} (x : S64x64.Idx → α) (v : IVec S4032x1 32) (k : Fin 4032 → Fin 64)
    (hv : ∀ p z, v (ix2 p z) = BitVec.ofNat 32 (k p).val) (b : Fin 64) (p : Fin 4032) :
    Host.gather gather_S64x64_S4032x1_S64x4032_0_1_n_n_1_1_641 x v (ix2 b p) = x (ix2 b (k p)) := by
  refine congrArg x ?_
  funext a
  refine Fin.ext ?_
  match a with
  | ⟨0, _⟩ =>
    show 0 + 0 + b.val = b.val
    omega
  | ⟨1, _⟩ =>
    show min (v (GatherDims.siIdx _ _ _)).toInt.toNat 63 + 0 + 0 = (k p).val
    refine Eq.trans (congrArg (fun u : BitVec 32 => min u.toInt.toNat 63 + 0 + 0) ?_) (clamp_word (k p))
    refine (congrArg v ?_).trans (hv p 0)
    funext e
    match e with
    | ⟨0, _⟩ => rfl
    | ⟨1, _⟩ => exact Subsingleton.elim (α := Fin 1) _ _

/-- Rows taken at a table's positions. -/
def takeRows (x : FVec Ideal S64x64x64 .f32) (v : IVec S4032x1 32) : FVec Ideal S64x4032x64 .f32 :=
  select (broadcastInDim S64x4032x64 ![1] bcast_S4032_S64x4032x64_1 (inside v))
    (Host.gather gather_S64x64x64_S4032x1_S64x4032x64_02_1_n_n_1_1_64164 x v)
    (broadcastInDim S64x4032x64 ![] bcast_S_S64x4032x64 (constant S_ .f32 0x7FC00000#32))

/-- Words taken at a table's positions. -/
def takeWords {w : Nat} (x : IVec S64x64 w) (v : IVec S4032x1 32) (fill : BitVec w) : IVec S64x4032 w :=
  select (broadcastInDim S64x4032 ![1] bcast_S4032_S64x4032_1 (inside v))
    (Host.gather gather_S64x64_S4032x1_S64x4032_0_1_n_n_1_1_641 x v)
    (broadcastInDim S64x4032 ![] bcast_S_S64x4032 (constantI S_ w fill))

/-- A row taken is the operand's row at the table's position. -/
theorem takeRows_at (x : FVec Ideal S64x64x64 .f32) (c : IVec S4032 32) (k : Fin 4032 → Fin 64)
    (hc : ∀ p, c (ix1 p) = BitVec.ofNat 32 (k p).val) (b : Fin 64) (p : Fin 4032) (d : Fin 64) :
    takeRows x (wrap c) (ix3 b p d) = x (ix3 b (k p) d) := by
  pointwise [takeRows]
  rw [inside_at c k hc]
  exact gather_rows x _ k (wrap_at c k hc) b p d

/-- A word taken is the operand's word at the table's position. -/
theorem takeWords_at {w : Nat} (x : IVec S64x64 w) (c : IVec S4032 32) (fill : BitVec w) (k : Fin 4032 → Fin 64)
    (hc : ∀ p, c (ix1 p) = BitVec.ofNat 32 (k p).val) (b : Fin 64) (p : Fin 4032) :
    takeWords x (wrap c) fill (ix2 b p) = x (ix2 b (k p)) := by
  pointwise [takeWords]
  rw [inside_at c k hc]
  exact gather_words x _ k (wrap_at c k hc) b p

end Cert.ReferenceIdeal.Pairs

end
-- ==== Proof.Tables.lean ====
/-
  The reference's two tables of positions: the left and the right position of each ordered pair.
-/
module

public import proofs.«01_k».proof.Proof.Gen.ReferenceIdeal
public import proofs.«01_k».proof.Proof.Sums

@[expose] public section

set_option maxRecDepth 16384

noncomputable section

namespace Cert.ReferenceIdeal.Pairs

open Cert.ReferenceIdeal Cert.ReferenceIdeal.Gen Idealize.ShloMosaic Idealize.SL.Sem Cert.PairModel

/-- The table of left positions. -/
theorem left_table : ∀ p : Fin 4032, lit0 p = BitVec.ofNat 32 (leftOf p).val := by decide +kernel

/-- The table of right positions. -/
theorem right_table : ∀ p : Fin 4032, lit1 p = BitVec.ofNat 32 (rightOf p).val := by decide +kernel

/-- The table's place of a position. -/
theorem place (p : Fin 4032) : S4032.rowMajor (ix1 p) = p := by
  exact Fin.ext (Shape.rowMajor_val_one _)

end Cert.ReferenceIdeal.Pairs

end
-- ==== Proof.Ref.lean ====
/-
  The reference's two results read at an index.
-/
module

public import proofs.«01_k».proof.Proof.Take
public import proofs.«01_k».proof.Proof.Tables

@[expose] public section

set_option maxRecDepth 16384

noncomputable section

namespace Cert.ReferenceIdeal.Pairs

open Cert.ReferenceIdeal Cert.ReferenceIdeal.Gen Idealize.ShloMosaic Idealize.SL.Sem Cert.PairModel

/-- The left positions of the pairs. -/
def lefts : IVec S4032 32 := fun i => lit0 (S4032.rowMajor i)
/-- The right positions of the pairs. -/
def rights : IVec S4032 32 := fun i => lit1 (S4032.rowMajor i)

/-- A left position. -/
theorem lefts_at (p : Fin 4032) : lefts (ix1 p) = BitVec.ofNat 32 (leftOf p).val :=
  (congrArg lit0 (place p)).trans (left_table p)

/-- A right position. -/
theorem rights_at (p : Fin 4032) : rights (ix1 p) = BitVec.ofNat 32 (rightOf p).val :=
  (congrArg lit1 (place p)).trans (right_table p)

/-- The rows of a pair, side by side. -/
def sides (X : Rows) : FVec Ideal S258048x128 .f32 :=
  concatenate S258048x128 1 [⟨S258048x64, (shapeCast _ (takeRows X (wrap lefts)) shapeCasts_S64x4032x64_S258048x64)⟩,
    ⟨S258048x64, (shapeCast _ (takeRows X (wrap rights)) shapeCasts_S64x4032x64_S258048x64)⟩] concatenates_S258048x64_S258048x64_S258048x128_d1

/-- The reference's predictions. -/
def refPred (X : Rows) (W : Inner) (p : Offs) (U : Outer) (q : One) : FVec Ideal S258048x1 .f32 :=
  addf (Host.dotGeneral dot_S258048x128_S128x1_S258048x1_1_0_0_1_n_n none
    (maximumf (addf (Host.dotGeneral dot_S258048x128_S128x128_S258048x128_1_0_0_1_n_n none (sides X) W)
      (broadcastInDim S258048x128 ![0, 1] bcast_S1x128_S258048x128_0_1 (broadcastInDim S1x128 ![1] bcast_S128_S1x128_1 p)))
      (broadcastInDim S258048x128 ![] bcast_S_S258048x128 (constant S_ .f32 0x00000000#32))) U)
    (broadcastInDim S258048x1 ![0, 1] bcast_S1x1_S258048x1_0_1 (broadcastInDim S1x1 ![1] bcast_S1_S1x1_1 q))

/-- A side's feature: the left row's first, then the right row's. -/
theorem sides_lo (X : Rows) (r : Fin 258048) (d : Fin 64) :
    sides X (ix2 r (lo d)) = X (ix3 (flatB r) (leftOf (flatP r)) d) := by
  pointwise [sides]
  refine (dif_pos (show (lo d).val < 64 from d.isLt)).trans ?_
  exact takeRows_at X lefts leftOf lefts_at (flatB r) (flatP r) d

/-- The right row's features follow. -/
theorem sides_hi (X : Rows) (r : Fin 258048) (d : Fin 64) :
    sides X (ix2 r (hi d)) = X (ix3 (flatB r) (rightOf (flatP r)) d) := by
  pointwise [sides]
  refine (dif_neg (show ¬(hi d).val < 64 from by simp only [hi]; omega)).trans ?_
  refine Eq.trans ?_ (takeRows_at X rights rightOf rights_at (flatB r) (flatP r) d)
  exact congrArg (fun e => takeRows X (wrap rights) (ix3 (flatB r) (flatP r) e)) (Fin.ext (by simp only [hi]; omega))

/-- A sum over the first layer's inputs: the left ones, then the right ones. -/
theorem sum_sides (f : Fin 128 → EReal) : (∑ k : Fin 128, f k) = (∑ d : Fin 64, f (lo d)) + ∑ d : Fin 64, f (hi d) := by
  rw [show (∑ k : Fin 128, f k) = ∑ k : Fin (64 + 64), f k from rfl, Fin.sum_univ_add]
  refine congr (congrArg _ (Finset.sum_congr rfl fun d _ => rfl)) (Finset.sum_congr rfl fun d _ => congrArg f (Fin.ext ?_))
  simp only [Fin.val_natAdd, hi]; omega

/-- The reference's prediction is the score of its pair. -/
theorem refPred_at (X : Rows) (W : Inner) (p : Offs) (U : Outer) (q : One) (r : Fin 258048) :
    refPred X W p U q (ix2 r 0) = score X W p U q (flatB r) (leftOf (flatP r)) (rightOf (flatP r)) := by
  pointwise [refPred]
  unfold score
  refine congrArg (· + q (ix1 0) : EReal → EReal) (Finset.sum_congr rfl fun h _ => ?_)
  rw [sum_sides, add_assoc]
  simp only [sides_lo, sides_hi]

/-- The reference's predictions as one axis. -/
def refFlat (X : Rows) (W : Inner) (p : Offs) (U : Outer) (q : One) : FVec Ideal S258048 .f32 :=
  shapeCast _ (refPred X W p U q) shapeCasts_S258048x1_S258048

/-- The reference's matches. -/
def refHit (L : Words) : FVec Ideal S258048 .f32 :=
  uitofp .f32 (shapeCast _ (andi
    (cmpi .eq (takeWords L (wrap lefts) 2147483648#32) (takeWords L (wrap rights) 2147483648#32))
    (noti (ori (takeWords (cmpi .slt L (broadcastInDim S64x64 ![] bcast_S_S64x64 (constantI S_ 32 0#32))) (wrap lefts) 1#1)
      (takeWords (cmpi .slt L (broadcastInDim S64x64 ![] bcast_S_S64x64 (constantI S_ 32 0#32))) (wrap rights) 1#1)))) shapeCasts_S64x4032_S258048)

/-- The complement of a truth value. -/
theorem not_word : ∀ a : BitVec 1, ~~~a = IntOp.xori a 1#1 := by decide

/-- A truth value as a number. -/
theorem truth_number (a : BitVec 1) : FloatOps.uitofp (F := Ideal) .f32 a = Scalar.select a (1 : EReal) 0 := by
  have h : a = 0#1 ∨ a = 1#1 := by
    revert a; decide
  rcases h with rfl | rfl
  · show (((0#1 : BitVec 1).toNat : ℝ) : EReal) = 0
    simp
  · show (((1#1 : BitVec 1).toNat : ℝ) : EReal) = 1
    simp

/-- The reference's match is the match of its pair. -/
theorem refHit_at (L : Words) (r : Fin 258048) :
    refHit L (ix1 r) = hit L (flatB r) (leftOf (flatP r)) (rightOf (flatP r)) := by
  pointwise [refHit]
  simp only [takeWords_at _ lefts _ leftOf lefts_at, takeWords_at _ rights _ rightOf rights_at]
  rw [truth_number, not_word]
  rfl

/-- The reference's roles. -/
def refRole (O : Words) : IVec S64x64 32 :=
  subi (minsi (broadcastInDim S64x64 ![] bcast_S_S64x64 (id (constantI S_ 32 1#32))) (maxsi (broadcastInDim S64x64 ![] bcast_S_S64x64 (id (constantI S_ 32 0#32)))
    (addi (addi (extui 32 (cmpi .eq O (broadcastInDim S64x64 ![] bcast_S_S64x64 (constantI S_ 32 3#32))) natLt_1_32)
      (extui 32 (cmpi .eq O (broadcastInDim S64x64 ![] bcast_S_S64x64 (constantI S_ 32 4#32))) natLt_1_32))
      (extui 32 (cmpi .eq O (broadcastInDim S64x64 ![] bcast_S_S64x64 (constantI S_ 32 5#32))) natLt_1_32))))
    (extui 32 (cmpi .eq O (broadcastInDim S64x64 ![] bcast_S_S64x64 (constantI S_ 32 1#32))) natLt_1_32)

/-- The clipped sum of three truth values is their disjunction. -/
theorem clip_word : ∀ a b c : BitVec 1, IntOp.minsi 1#32 (IntOp.maxsi 0#32 (IntOp.addi (IntOp.addi (BitVec.setWidth 32 a) (BitVec.setWidth 32 b)) (BitVec.setWidth 32 c)))
    = BitVec.setWidth 32 (IntOp.ori (IntOp.ori a b) c) := by decide

/-- The reference's role is the role. -/
theorem refRole_at (O : Words) (i : S64x64.Idx) : refRole O i = role (O i) := by
  pointwise [refRole]
  refine congrArg (IntOp.subi · (BitVec.setWidth 32 (IntOp.cmpi CmpIPredicate.eq (O i) 1#32))) (?_ : _ = BitVec.setWidth 32 (IntOp.ori (IntOp.ori (IntOp.cmpi CmpIPredicate.eq (O i) 3#32) (IntOp.cmpi CmpIPredicate.eq (O i) 4#32)) (IntOp.cmpi CmpIPredicate.eq (O i) 5#32)))
  exact clip_word _ _ _

/-- The reference's weights. -/
def refWeight (O : Words) : FVec Ideal S258048 .f32 :=
  sitofp .f32 (addi (broadcastInDim S258048 ![] bcast_S_S258048 (constantI S_ 32 1#32))
    (shapeCast _ (andi (takeWords (refRole O) (wrap lefts) 2147483648#32) (takeWords (refRole O) (wrap rights) 2147483648#32)) shapeCasts_S64x4032_S258048))

/-- The reference's weighted losses, from the predictions, the matches and the weights. -/
def refCost (s y w : FVec Ideal S258048 .f32) : FVec Ideal S258048 .f32 :=
  mulf (addf (subf (maximumf s (broadcastInDim S258048 ![] bcast_S_S258048 (constant S_ .f32 0x00000000#32))) (mulf s y))
    (Host.log1p (Host.exp (Host.negf (Host.absf s))))) w

/-- The reference's loss. -/
def refLoss (X : Rows) (L O : Words) (W : Inner) (p : Offs) (U : Outer) (q : One) : FVec Ideal S_ .f32 :=
  mulf (Host.divf (Host.reduceAdd (refCost (refFlat X W p U q) (refHit L) (refWeight O)) (constant S_ .f32 0x00000000#32) reducesTo_S258048_S_d0 h_S_)
    (Host.reduceAdd (refHit L) (constant S_ .f32 0x00000000#32) reducesTo_S258048_S_d0 h_S_)) (constant S_ .f32 0x3F800000#32)

/-- The reference's prediction on one axis. -/
theorem refFlat_at (X : Rows) (W : Inner) (p : Offs) (U : Outer) (q : One) (r : Fin 258048) :
    refFlat X W p U q (ix1 r) = score X W p U q (flatB r) (leftOf (flatP r)) (rightOf (flatP r)) := by
  pointwise [refFlat]
  exact refPred_at X W p U q r

/-- The weight of a pair is one plus the bitwise conjunction of its two roles. -/
theorem refWeight_at (O : Words) (r : Fin 258048) : refWeight O (ix1 r)
    = FloatOps.sitofp (F := Ideal) .f32 (IntOp.addi 1#32 (IntOp.andi (role (O (ix2 (flatB r) (leftOf (flatP r)))))
        (role (O (ix2 (flatB r) (rightOf (flatP r))))))) := by
  pointwise [refWeight]
  simp only [takeWords_at _ lefts _ leftOf lefts_at, takeWords_at _ rights _ rightOf rights_at, refRole_at]
  rfl

/-- The reference's weighted loss of a pair is the loss of that pair. -/
theorem refCost_at (X : Rows) (L O : Words) (W : Inner) (p : Offs) (U : Outer) (q : One) (r : Fin 258048) :
    refCost (refFlat X W p U q) (refHit L) (refWeight O) (ix1 r)
      = loss X L O W p U q (flatB r) (leftOf (flatP r)) (rightOf (flatP r)) := by
  pointwise [refCost]
  rw [refFlat_at, refHit_at, refWeight_at]
  rw [← zero_sub (FloatOps.absf (F := Ideal) (φ := .f32) _)]
  rfl

end Cert.ReferenceIdeal.Pairs

end
-- ==== Proof.Total.lean ====
/-
  The reference's loss as the quotient of the two sums over all ordered pairs.
-/
module

public import proofs.«01_k».proof.Proof.Ref
public import proofs.«01_k».proof.Proof.Sums

@[expose] public section

set_option maxRecDepth 16384

noncomputable section

namespace Cert.ReferenceIdeal.Pairs

open Cert.ReferenceIdeal Cert.ReferenceIdeal.Gen Idealize.ShloMosaic Idealize.SL.Sem Cert.PairModel

/-- The sum of a vector along its only axis. -/
theorem sum_all (x : FVec Ideal S258048 .f32) (j : S_.Idx) :
    Host.reduceAdd x (constant S_ .f32 0x00000000#32) reducesTo_S258048_S_d0 h_S_ j = ∑ k : Fin 258048, x (ix1 k) := by
  pointwise []

/-- A quotient of two numbers, times one. -/
theorem quot_one (a b : FVec Ideal S_ .f32) (j : S_.Idx) :
    mulf (Host.divf a b) (constant S_ .f32 0x3F800000#32) j = Ideal.div (a j) (b j) := by
  pointwise []

/-- The reference's loss is the sum of the losses over the number of matches. -/
theorem refLoss_at (X : Rows) (L O : Words) (W : Inner) (p : Offs) (U : Outer) (q : One) (j : S_.Idx) :
    refLoss X L O W p U q j = Ideal.div (total (loss X L O W p U q)) (total (hit L)) := by
  rw [refLoss, quot_one, sum_all, sum_all, ← sum_flat (loss X L O W p U q), ← sum_flat (hit L)]
  exact congrArg₂ Ideal.div (Finset.sum_congr rfl fun r _ => refCost_at X L O W p U q r)
    (Finset.sum_congr rfl fun r _ => refHit_at L r)

end Cert.ReferenceIdeal.Pairs

end
-- ==== Proof.RefRun.lean ====
/-
  The reference's run, with its two results named.
-/
module

public import proofs.«01_k».proof.Proof.Total
public import proofs.«01_k».proof.Proof.Gen.ReferenceIdeal.Run
public import Idealize.ShloMosaic.Lib.Claim

@[expose] public section

set_option maxRecDepth 16384

noncomputable section

namespace Cert.ReferenceIdeal.Pairs

open Cert.ReferenceIdeal Cert.ReferenceIdeal.Gen Idealize.ShloMosaic Idealize.ShloMosaic.TcCoe Idealize.SL.Sem Cert.PairModel

variable (m : (ℓ : Loc nD τ sig) → Buf (Elt Ideal) ℓ) (ρ : Dev nD → PrngReg)

/-- The reference ends with its predictions and its loss of the arguments, and leaves the arguments alone. -/
theorem run_named : θ_run defs (onTc (τ := τ) (main (F := Ideal))) ⟨m, fun _ => 0, ρ⟩ fun r => ∀ c : Dev nD,
    r.2.mem ((c.tc : Thread nD τ).loc main_v13) = refPred (m ((c.tc : Thread nD τ).loc main_arg0)) (m ((c.tc : Thread nD τ).loc main_arg3))
      (m ((c.tc : Thread nD τ).loc main_arg4)) (m ((c.tc : Thread nD τ).loc main_arg5)) (m ((c.tc : Thread nD τ).loc main_arg6))
    ∧ r.2.mem ((c.tc : Thread nD τ).loc main_v63) = refLoss (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  θ_run_mono (Value.run m ρ) fun r h c => ⟨(h c).1.trans rfl, (h c).2.1.trans rfl, (h c).2.2⟩

end Cert.ReferenceIdeal.Pairs

end
-- ==== Proof.Carry.lean ====
/-
  What one grid point of the pairwise kernel leaves behind, as the body's named terms over the point's input blocks:
  the block of predictions, the carried sum of weighted losses, the carried count of matches, and, at the last point,
  their quotient.
-/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Pairs

open Cert.KernelIdeal Cert.KernelIdeal.Gen Idealize.ShloMosaic Idealize.ShloMosaic.TcCoe Idealize.SL.Sem

open Idealize.ShloMosaic.Pipeline (Dat)

variable {F : FTy → Type} [FloatOps F]
variable (m : (ℓ : Loc nD τ sig) → Buf (Elt F) ℓ)

/-- An array of one word has one index. -/
theorem one_idx (i j : S1x1.Idx) : i = j := by
  funext a
  match a with
  | ⟨0, _⟩ => exact Subsingleton.elim (α := Fin 1) _ _
  | ⟨1, _⟩ => exact Subsingleton.elim (α := Fin 1) _ _

/-- The word read off an array of one word. -/
theorem word_read (x5 : Vec F S1x1 .f32) (h : ∀ a, (![0, 0] : Fin 2 → Nat) a + (![1, 1] : Fin 2 → Nat) a ≤ S1x1.size a) (j) :
    View.ld x5 (Rect.unit ![0, 0] ![1, 1] h) j = x5 (ix2 0 0) :=
  congrArg x5 (one_idx _ _)

/-- The block of predictions over the six input blocks it reads. -/
def predB (x0 : Vec F S16x64x64 .f32) (x1 x2 : Vec F S64x128 .f32) (x3 x4 : Vec F S1x128 .f32) (x5 : Vec F S1x1 .f32) :
    Vec F S16x64x64 .f32 :=
  k0_pay3 x0 x1 x2 x3 x4 (x5 (ix2 0 0))

/-- The carried sum of losses after a point, over what it held before. -/
def lossB (p : Vec F S16x64x64 .f32) (x6 : Vec F S16x1x64 .i32) (x7 : Vec F S16x64x1 .i32) (x8 : Vec F S16x1x64 .i32)
    (x9 : Vec F S16x64x1 .i32) (acc : Vec F S8x64 .f32) : Vec F S8x64 .f32 :=
  k0_pay13 (k0_pay4 p) k0_pay5 (k0_pay6 (F := F) x7 x6) (k0_pay7 (F := F) x9) (k0_pay8 (F := F) x8) (k0_pay9 (F := F) x8) acc

/-- The carried count of matches after a point, over what it held before. -/
def cntB (x6 : Vec F S16x1x64 .i32) (x7 : Vec F S16x64x1 .i32) (acc : Vec F S8x64 .f32) : Vec F S8x64 .f32 :=
  k0_pay1 (k0_pay10 (k0_pay6 (F := F) x7 x6)) acc

/-- The predictions of point `t`, over the arrays' blocks at that point. -/
def predAt (c : Dev nD) (t : Fin cfg0.N) : Vec F S16x64x64 .f32 :=
  predB (iblk m c 0 t) (iblk m c 1 t) (iblk m c 2 t) (iblk m c 3 t) (iblk m c 4 t) (iblk m c 5 t)

/-- Every point leaves its own predictions in the first output's buffer. -/
theorem pred_left (c : Dev nD) (t : Fin cfg0.N) : (outsAt0 m c t.val t.isLt).1 = predAt m c t := by
  by_cases h0 : t.val % 4 = 0
  · have h1 : ¬t.val % 4 = 3 := by omega
    rw [outsAt0_A m c t h0 h1]; frame_out
    rw [word_read]; rfl
  · by_cases h1 : t.val % 4 = 3
    · rw [outsAt0_C m c t h0 h1]; frame_out
      rw [word_read]; rfl
    · rw [outsAt0_B m c t h0 h1]; frame_out
      rw [word_read]; rfl

/-- What point `t` adds to the carried losses `acc`. -/
def lossAt (c : Dev nD) (t : Fin cfg0.N) (acc : Vec F S8x64 .f32) : Vec F S8x64 .f32 :=
  lossB (predAt m c t) (iblk m c 6 t) (iblk m c 7 t) (iblk m c 8 t) (iblk m c 9 t) acc

/-- What point `t` adds to the carried count `acc`. -/
def cntAt (c : Dev nD) (t : Fin cfg0.N) (acc : Vec F S8x64 .f32) : Vec F S8x64 .f32 :=
  cntB (iblk m c 6 t) (iblk m c 7 t) acc

/-- The first point starts the losses from zero. -/
theorem loss_first (c : Dev nD) (t : Fin cfg0.N) (h0 : t.val % 4 = 0) :
    (outsAt0 m c t.val t.isLt).2.2.1 = lossAt m c t k0_pay11 := by
  have h1 : ¬t.val % 4 = 3 := by omega
  rw [outsAt0_A m c t h0 h1]; frame_out
  rw [word_read]; rfl

/-- The first point starts the count from zero. -/
theorem cnt_first (c : Dev nD) (t : Fin cfg0.N) (h0 : t.val % 4 = 0) :
    (outsAt0 m c t.val t.isLt).2.2.2 = cntAt m c t k0_pay12 := by
  have h1 : ¬t.val % 4 = 3 := by omega
  rw [outsAt0_A m c t h0 h1]; frame_out
  rfl

/-- A later point adds to the losses the point before it left. -/
theorem loss_next (c : Dev nD) (t : Fin cfg0.N) (h0 : ¬t.val % 4 = 0) :
    (outsAt0 m c t.val t.isLt).2.2.1
      = lossAt m c t (outsAt0 m c (t.val - 1) (by have := t.isLt; omega)).2.2.1 := by
  by_cases h1 : t.val % 4 = 3
  · rw [outsAt0_C m c t h0 h1]; frame_out
    rw [word_read]
    exact congrArg (lossAt m c t) (Memref.IsWhole.read_unread _ _)
  · rw [outsAt0_B m c t h0 h1]; frame_out
    rw [word_read]
    exact congrArg (lossAt m c t) (Memref.IsWhole.read_unread _ _)

/-- A later point adds to the count the point before it left. -/
theorem cnt_next (c : Dev nD) (t : Fin cfg0.N) (h0 : ¬t.val % 4 = 0) :
    (outsAt0 m c t.val t.isLt).2.2.2
      = cntAt m c t (outsAt0 m c (t.val - 1) (by have := t.isLt; omega)).2.2.2 := by
  by_cases h1 : t.val % 4 = 3
  · rw [outsAt0_C m c t h0 h1]; frame_out
    exact congrArg (cntAt m c t) (Memref.IsWhole.read_unread _ _)
  · rw [outsAt0_B m c t h0 h1]; frame_out
    exact congrArg (cntAt m c t) (Memref.IsWhole.read_unread _ _)

/-- The last point leaves the quotient of the two carried sums. -/
theorem quot_last (c : Dev nD) (t : Fin cfg0.N) (h1 : t.val % 4 = 3) (j : S1x1.Idx) :
    (outsAt0 m c t.val t.isLt).2.1 j
      = k0_pay2 (outsAt0 m c t.val t.isLt).2.2.1 (outsAt0 m c t.val t.isLt).2.2.2 := by
  have h0 : ¬t.val % 4 = 0 := by omega
  rw [outsAt0_C m c t h0 h1]; frame_out

end Cert.KernelIdeal.Pairs

end
-- ==== Proof.Pay.lean ====
/-
  The kernel's named terms read at an index, on extended reals.
-/
module

public import proofs.«01_k».proof.Proof.Gen.KernelIdeal.Skeleton
public import proofs.«01_k».proof.Proof.Spec

@[expose] public section

set_option maxRecDepth 16384

noncomputable section

namespace Cert.KernelIdeal.Pairs

open Cert.KernelIdeal Cert.KernelIdeal.Gen Idealize.ShloMosaic Idealize.SL.Sem Cert.PairModel

/-- A prediction of a block. -/
theorem pred_at (x : Vec Ideal S16x64x64 .f32) (u v : Vec Ideal S64x128 .f32) (b w : Vec Ideal S1x128 .f32)
    (c : Ideal .f32) (r : Fin 16) (i j : Fin 64) : k0_pay3 x u v b w c (ix3 r i j)
      = (∑ h : Fin 128, max ((∑ d : Fin 64, x (ix3 r i d) * u (ix2 d h))
          + ((∑ d : Fin 64, x (ix3 r j d) * v (ix2 d h)) + b (ix2 0 h))) 0 * w (ix2 0 h)) + c := by
  pointwise [k0_pay3]

/-- A match of a block: the labels match, and the positions differ. -/
theorem match_at (lc : Vec Ideal S16x64x1 .i32) (lr : Vec Ideal S16x1x64 .i32) (r : Fin 16) (i j : Fin 64) :
    k0_pay6 (F := Ideal) lc lr (ix3 r i j)
      = Scalar.select (IntOp.andi (same (lc (ix3 r i 0)) (lr (ix3 r 0 j)))
          (IntOp.cmpi .ne (BitVec.ofNat 32 i.val) (BitVec.ofNat 32 j.val))) (1 : EReal) 0 := by
  pointwise [k0_pay6, k0_pay5]
  rfl

/-- The first sublane and batch element of row `x` of a block laid out in rows of eight. -/
def rowB (x : Fin 128) : Fin 16 := ⟨x.val / 8, by omega⟩
/-- The position of sublane `s` of row `x`. -/
def rowI (x : Fin 128) (s : Fin 8) : Fin 64 := ⟨x.val % 8 * 8 + s.val, by omega⟩

/-- The carried count after a point. -/
theorem cnt_at (mm : FVec Ideal S16x64x64 .f32) (acc : Vec Ideal S8x64 .f32) (s : Fin 8) (l : Fin 64) :
    k0_pay1 (k0_pay10 mm) acc (ix2 s l) = acc (ix2 s l) + ∑ x : Fin 128, mm (ix3 (rowB x) (rowI x s) l) := by
  pointwise [k0_pay1, k0_pay10]
  rfl

/-- The carried losses after a point. -/
theorem loss_at (p mm : FVec Ideal S16x64x64 .f32) (oc : Vec Ideal S16x64x1 .i32) (or : Vec Ideal S16x1x64 .i32)
    (acc : Vec Ideal S8x64 .f32) (s : Fin 8) (l : Fin 64) :
    k0_pay13 (k0_pay4 p) k0_pay5 mm (k0_pay7 (F := Ideal) oc) (k0_pay8 (F := Ideal) or) (k0_pay9 (F := Ideal) or) acc (ix2 s l)
      = acc (ix2 s l) + ∑ x : Fin 128,
          Scalar.select (IntOp.cmpi .ne (BitVec.ofNat 32 (rowI x s).val) (BitVec.ofNat 32 l.val))
            (cost (p (ix3 (rowB x) (rowI x s) l)) (mm (ix3 (rowB x) (rowI x s) l)) (oc (ix3 (rowB x) (rowI x s) 0))
              (or (ix3 (rowB x) 0 l))) 0 := by
  pointwise [k0_pay13, k0_pay4, k0_pay5, k0_pay7, k0_pay8, k0_pay9]
  rfl

/-- The quotient that the last point takes. -/
theorem quot_at (s c : Vec Ideal S8x64 .f32) :
    k0_pay2 s c = Ideal.div (∑ i : Fin 8, ∑ l : Fin 64, s (ix2 i l)) (∑ i : Fin 8, ∑ l : Fin 64, c (ix2 i l)) := by
  pointwise [k0_pay2]

/-- The carried losses start at zero. -/
theorem zero_loss (j : S8x64.Idx) : k0_pay11 (F := Ideal) j = (0 : EReal) := by
  pointwise [k0_pay11]

/-- The carried count starts at zero. -/
theorem zero_cnt (j : S8x64.Idx) : k0_pay12 (F := Ideal) j = (0 : EReal) := by
  pointwise [k0_pay12]

end Cert.KernelIdeal.Pairs

end
-- ==== Proof.Arr.lean ====
/-
  The kernel's input blocks at a grid point, read off the argument arrays.
-/
module

public import proofs.«01_k».proof.Proof.Carry
public import proofs.«01_k».proof.Proof.Pay

@[expose] public section

set_option maxRecDepth 16384

noncomputable section

namespace Cert.KernelIdeal.Pairs

open Cert.KernelIdeal Cert.KernelIdeal.Gen Idealize.ShloMosaic Idealize.ShloMosaic.TcCoe Idealize.SL.Sem Cert.PairModel
open Idealize.ShloMosaic.Pipeline (Dat)

variable (m : (ℓ : Loc nD τ sig) → Buf (Elt Ideal) ℓ)

/-- The block that each window reads or writes at a grid point: the batched windows move with the point, the rest stay. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0]
    ∧ win0_6.index t = ![t.val, 0, 0] ∧ win0_7.index t = ![t.val, 0, 0] ∧ win0_8.index t = ![t.val, 0, 0]
    ∧ win0_9.index t = ![t.val, 0, 0] ∧ win0_10.index t = ![t.val, 0, 0] ∧ win0_11.index t = ![0, 0] :=
  (by decide +kernel : ∀ t : Fin grid0.N, _)

/-- The batch element that row `r` of block `t` is. -/
def elt (t : Fin cfg0.N) (r : Fin 16) : Fin 64 := ⟨t.val * 16 + r.val, by have := lt_of_lt_of_eq t.isLt (show cfg0.N = 4 from N_0); omega⟩

/-- The rows of a block. -/
theorem rows_at (c : Dev nD) (t : Fin cfg0.N) (r : Fin 16) (i d : Fin 64) :
    iblk m c 0 t (ix3 r i d) = m ((c : Thread nD τ).loc main_arg0) (ix3 (elt t r) i d) := by
  blk_point [iblk, idx t, elt, lo, hi]

/-- What `main_v0` holds when the pipeline starts. -/
theorem entry_v0 (c : Dev nD) : V m c main_v0 = extractStridedSlice S64x128 ![0, 0] (m ((c : Thread nD τ).loc main_arg3)) slices_S128x128_S64x128_0_0 := by
  show StableHlo.after hostOps0 (fun b => m (c, b)) (Proc.devRef .tc main_v0) = _
  after_results
  try rfl

/-- What `main_v1` holds when the pipeline starts. -/
theorem entry_v1 (c : Dev nD) : V m c main_v1 = extractStridedSlice S64x128 ![64, 0] (m ((c : Thread nD τ).loc main_arg3)) slices_S128x128_S64x128_64_0 := by
  show StableHlo.after hostOps0 (fun b => m (c, b)) (Proc.devRef .tc main_v1) = _
  after_results
  try rfl

/-- What `main_v2` holds when the pipeline starts. -/
theorem entry_v2 (c : Dev nD) : V m c main_v2 = shapeCast S1x128 (m ((c : Thread nD τ).loc main_arg4)) shapeCasts_S128_S1x128 := by
  show StableHlo.after hostOps0 (fun b => m (c, b)) (Proc.devRef .tc main_v2) = _
  after_results
  try rfl

/-- What `main_v3` holds when the pipeline starts. -/
theorem entry_v3 (c : Dev nD) : V m c main_v3 = shapeCast S1x128 (m ((c : Thread nD τ).loc main_arg5)) shapeCasts_S128x1_S1x128 := by
  show StableHlo.after hostOps0 (fun b => m (c, b)) (Proc.devRef .tc main_v3) = _
  after_results
  try rfl

/-- What `main_v4` holds when the pipeline starts. -/
theorem entry_v4 (c : Dev nD) : V m c main_v4 = shapeCast S1x1 (m ((c : Thread nD τ).loc main_arg6)) shapeCasts_S1_S1x1 := by
  show StableHlo.after hostOps0 (fun b => m (c, b)) (Proc.devRef .tc main_v4) = _
  after_results
  try rfl

/-- What `main_v5` holds when the pipeline starts. -/
theorem entry_v5 (c : Dev nD) : V m c main_v5 = shapeCast S64x1x64 (m ((c : Thread nD τ).loc main_arg1)) shapeCasts_S64x64_S64x1x64 := by
  show StableHlo.after hostOps0 (fun b => m (c, b)) (Proc.devRef .tc main_v5) = _
  after_results
  try rfl

/-- What `main_v6` holds when the pipeline starts. -/
theorem entry_v6 (c : Dev nD) : V m c main_v6 = shapeCast S64x64x1 (m ((c : Thread nD τ).loc main_arg1)) shapeCasts_S64x64_S64x64x1 := by
  show StableHlo.after hostOps0 (fun b => m (c, b)) (Proc.devRef .tc main_v6) = _
  after_results
  try rfl

/-- What `main_v7` holds when the pipeline starts. -/
theorem entry_v7 (c : Dev nD) : V m c main_v7 = shapeCast S64x1x64 (m ((c : Thread nD τ).loc main_arg2)) shapeCasts_S64x64_S64x1x64 := by
  show StableHlo.after hostOps0 (fun b => m (c, b)) (Proc.devRef .tc main_v7) = _
  after_results
  try rfl

/-- What `main_v8` holds when the pipeline starts. -/
theorem entry_v8 (c : Dev nD) : V m c main_v8 = shapeCast S64x64x1 (m ((c : Thread nD τ).loc main_arg2)) shapeCasts_S64x64_S64x64x1 := by
  show StableHlo.after hostOps0 (fun b => m (c, b)) (Proc.devRef .tc main_v8) = _
  after_results
  try rfl

/-- The left weights. -/
theorem lo_at (c : Dev nD) (t : Fin cfg0.N) (d : Fin 64) (h : Fin 128) :
    iblk m c 1 t (ix2 d h) = m ((c : Thread nD τ).loc main_arg3) (ix2 (lo d) h) := by
  show V m c main_v0 (((cfg0.win 1).blk t).view.emb (ix2 d h)) = _
  rw [entry_v0]
  pointwise []
  blk_ext [idx t, elt, lo, hi]

/-- The right weights. -/
theorem hi_at (c : Dev nD) (t : Fin cfg0.N) (d : Fin 64) (h : Fin 128) :
    iblk m c 2 t (ix2 d h) = m ((c : Thread nD τ).loc main_arg3) (ix2 (hi d) h) := by
  show V m c main_v1 (((cfg0.win 2).blk t).view.emb (ix2 d h)) = _
  rw [entry_v1]
  pointwise []
  blk_ext [idx t, elt, lo, hi]

/-- The first layer's offsets. -/
theorem offs_at (c : Dev nD) (t : Fin cfg0.N) (h : Fin 128) :
    iblk m c 3 t (ix2 0 h) = m ((c : Thread nD τ).loc main_arg4) (ix1 h) := by
  show V m c main_v2 (((cfg0.win 3).blk t).view.emb (ix2 0 h)) = _
  rw [entry_v2]
  pointwise []
  blk_ext [idx t, elt, lo, hi]

/-- The second layer's weights. -/
theorem outer_at (c : Dev nD) (t : Fin cfg0.N) (h : Fin 128) :
    iblk m c 4 t (ix2 0 h) = m ((c : Thread nD τ).loc main_arg5) (ix2 h 0) := by
  show V m c main_v3 (((cfg0.win 4).blk t).view.emb (ix2 0 h)) = _
  rw [entry_v3]
  pointwise []
  blk_ext [idx t, elt, lo, hi]

/-- The second layer's offset. -/
theorem one_at (c : Dev nD) (t : Fin cfg0.N)  :
    iblk m c 5 t (ix2 0 0) = m ((c : Thread nD τ).loc main_arg6) (ix1 0) := by
  show V m c main_v4 (((cfg0.win 5).blk t).view.emb (ix2 0 0)) = _
  rw [entry_v4]
  pointwise []
  blk_ext [idx t, elt, lo, hi]

/-- The labels of the right positions. -/
theorem labr_at (c : Dev nD) (t : Fin cfg0.N) (r : Fin 16) (i : Fin 64) :
    iblk m c 6 t (ix3 r 0 i) = m ((c : Thread nD τ).loc main_arg1) (ix2 (elt t r) i) := by
  show V m c main_v5 (((cfg0.win 6).blk t).view.emb (ix3 r 0 i)) = _
  rw [entry_v5]
  pointwise []
  blk_ext [idx t, elt, lo, hi]

/-- The origins of the right positions. -/
theorem orgr_at (c : Dev nD) (t : Fin cfg0.N) (r : Fin 16) (i : Fin 64) :
    iblk m c 8 t (ix3 r 0 i) = m ((c : Thread nD τ).loc main_arg2) (ix2 (elt t r) i) := by
  show V m c main_v7 (((cfg0.win 8).blk t).view.emb (ix3 r 0 i)) = _
  rw [entry_v7]
  pointwise []
  blk_ext [idx t, elt, lo, hi]

/-- The labels of the left positions. -/
theorem labc_at (c : Dev nD) (t : Fin cfg0.N) (r : Fin 16) (i : Fin 64) :
    iblk m c 7 t (ix3 r i 0) = m ((c : Thread nD τ).loc main_arg1) (ix2 (elt t r) i) := by
  show V m c main_v6 (((cfg0.win 7).blk t).view.emb (ix3 r i 0)) = _
  rw [entry_v6]
  pointwise []
  blk_ext [idx t, elt, lo, hi]

/-- The origins of the left positions. -/
theorem orgc_at (c : Dev nD) (t : Fin cfg0.N) (r : Fin 16) (i : Fin 64) :
    iblk m c 9 t (ix3 r i 0) = m ((c : Thread nD τ).loc main_arg2) (ix2 (elt t r) i) := by
  show V m c main_v8 (((cfg0.win 9).blk t).view.emb (ix3 r i 0)) = _
  rw [entry_v8]
  pointwise []
  blk_ext [idx t, elt, lo, hi]

end Cert.KernelIdeal.Pairs

end
-- ==== Proof.Out.lean ====
/-
  The kernel's two result arrays after the pipeline, over the argument arrays: the scores of all pairs, and the quotient
  of the total weighted loss by the number of matches.
-/
module

public import proofs.«01_k».proof.Proof.Arr
public import proofs.«01_k».proof.Proof.Sums

@[expose] public section

set_option maxRecDepth 16384

noncomputable section

namespace Cert.KernelIdeal.Pairs

open Cert.KernelIdeal Cert.KernelIdeal.Gen Idealize.ShloMosaic Idealize.ShloMosaic.TcCoe Idealize.SL.Sem Cert.PairModel
open Idealize.ShloMosaic.Pipeline (Dat)

variable (m : (ℓ : Loc nD τ sig) → Buf (Elt Ideal) ℓ)

/-- The scores over the launch's arguments. -/
def scores (c : Dev nD) : Fin 64 → Fin 64 → Fin 64 → EReal :=
  score (m ((c : Thread nD τ).loc main_arg0)) (m ((c : Thread nD τ).loc main_arg3)) (m ((c : Thread nD τ).loc main_arg4))
    (m ((c : Thread nD τ).loc main_arg5)) (m ((c : Thread nD τ).loc main_arg6))

/-- The matches over the launch's arguments. -/
def hits (c : Dev nD) : Fin 64 → Fin 64 → Fin 64 → EReal := hit (m ((c : Thread nD τ).loc main_arg1))

/-- The weighted losses over the launch's arguments. -/
def losses (c : Dev nD) : Fin 64 → Fin 64 → Fin 64 → EReal :=
  loss (m ((c : Thread nD τ).loc main_arg0)) (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6))

/-- A point's prediction is the score of its pair. -/
theorem pred_point (c : Dev nD) (t : Fin cfg0.N) (r : Fin 16) (i j : Fin 64) :
    predAt m c t (ix3 r i j) = scores m c (elt t r) i j := by
  refine (pred_at _ _ _ _ _ _ r i j).trans ?_
  simp only [rows_at, lo_at, hi_at, offs_at, outer_at, one_at]
  rfl

/-- Two positions' numbers differ as words exactly when the positions differ. -/
theorem ne_word : ∀ i j : Fin 64, IntOp.cmpi .ne (BitVec.ofNat 32 i.val) (BitVec.ofNat 32 j.val)
    = if i = j then 0#1 else 1#1 := by decide +kernel

/-- A truth value and true. -/
theorem and_true : ∀ a : BitVec 1, IntOp.andi a 1#1 = a := by decide

/-- A truth value and false. -/
theorem and_false : ∀ a : BitVec 1, IntOp.andi a 0#1 = 0#1 := by decide

/-- A point's match is the match of its pair, off the diagonal. -/
theorem match_point (c : Dev nD) (t : Fin cfg0.N) (r : Fin 16) (i j : Fin 64) :
    k0_pay6 (F := Ideal) (iblk m c 7 t) (iblk m c 6 t) (ix3 r i j) = if i = j then 0 else hits m c (elt t r) i j := by
  refine (match_at _ _ r i j).trans ?_
  simp only [labc_at, labr_at]
  rw [ne_word]
  by_cases h : i = j
  · rw [if_pos h, if_pos h, and_false]; rfl
  · rw [if_neg h, if_neg h, and_true]; rfl

/-- The array of scores after the pipeline. -/
theorem pred_array (c : Dev nD) : (dats m 0 c).arrAt 10 cfg0.N
    = (fun y : S64x64x64.Idx => scores m c (y 0) (y 1) (y 2)) := by
  refine (dats m 0 c).arrAt_eq_of_covers 10 _ (by decide +kernel) fun t _ y => ?_
  blk_simp
  rw [after0_10, pred_left]
  refine (congrArg (predAt m c t) (eq_ix3 y)).trans ((pred_point m c t _ _ _).trans ?_)
  refine congr (congr (congrArg _ ?_) ?_) ?_
  · exact Fin.ext (by blk_simp [idx t, elt])
  · exact Fin.ext (by blk_simp [idx t, elt])
  · exact Fin.ext (by blk_simp [idx t, elt])

/-- The weighted losses that point `t` adds at sublane `s` and lane `l`. -/
def lossTerm (c : Dev nD) (t : Fin cfg0.N) (s : Fin 8) (l : Fin 64) : EReal :=
  ∑ x : Fin 128, if placeOf x s = l then 0 else losses m c (batchOf N_0 t x) (placeOf x s) l

/-- The matches that point `t` adds at sublane `s` and lane `l`. -/
def hitTerm (c : Dev nD) (t : Fin cfg0.N) (s : Fin 8) (l : Fin 64) : EReal :=
  ∑ x : Fin 128, if placeOf x s = l then 0 else hits m c (batchOf N_0 t x) (placeOf x s) l

/-- A point's step of the carried losses. -/
theorem loss_step (c : Dev nD) (t : Fin cfg0.N) (acc : Vec Ideal S8x64 .f32) (s : Fin 8) (l : Fin 64) :
    lossAt m c t acc (ix2 s l) = (acc (ix2 s l) + lossTerm m c t s l : EReal) := by
  refine (loss_at _ _ _ _ acc s l).trans (congrArg (acc (ix2 s l) + · : EReal → EReal) ?_)
  refine Finset.sum_congr rfl fun x _ => ?_
  rw [pred_point, match_point, orgc_at, orgr_at, ne_word]
  by_cases h : rowI x s = l
  · rw [if_pos h]; exact (if_pos (show placeOf x s = l from h)).symm
  · rw [if_neg h, if_neg h]; exact (if_neg (show ¬placeOf x s = l from h)).symm

/-- A point's step of the carried count. -/
theorem cnt_step (c : Dev nD) (t : Fin cfg0.N) (acc : Vec Ideal S8x64 .f32) (s : Fin 8) (l : Fin 64) :
    cntAt m c t acc (ix2 s l) = (acc (ix2 s l) + hitTerm m c t s l : EReal) := by
  refine (cnt_at _ acc s l).trans (congrArg (acc (ix2 s l) + · : EReal → EReal) ?_)
  exact Finset.sum_congr rfl fun x _ => match_point m c t _ _ _

/-- The carried losses after the last point. -/
theorem loss_sum (c : Dev nD) (s : Fin 8) (l : Fin 64) :
    (outsAt0 m c t0_3.val t0_3.isLt).2.2.1 (ix2 s l) = ∑ t : Fin cfg0.N, lossTerm m c t s l := by
  have h := Pipeline.eq_sum_fin_of_reset_step_apply_last (M := EReal)
    (fun n h (q : Fin 8 × Fin 64) => (outsAt0 m c n h).2.2.1 (ix2 q.1 q.2)) 4 (fun _ => 0)
    (fun t q => lossTerm m c t q.1 q.2)
    (fun t h0 q => by
      show (outsAt0 m c t.val t.isLt).2.2.1 (ix2 q.1 q.2) = _
      rw [loss_first m c t h0]
      refine (loss_step m c t _ q.1 q.2).trans ?_
      rw [zero_loss])
    (fun t h0 q => by
      show (outsAt0 m c t.val t.isLt).2.2.1 (ix2 q.1 q.2) = _
      rw [loss_next m c t h0]
      exact loss_step m c t _ q.1 q.2)
    (le_of_eq N_0) t0_3 rfl (s, l)
  rw [zero_add] at h
  exact h

/-- The carried count after the last point. -/
theorem cnt_sum (c : Dev nD) (s : Fin 8) (l : Fin 64) :
    (outsAt0 m c t0_3.val t0_3.isLt).2.2.2 (ix2 s l) = ∑ t : Fin cfg0.N, hitTerm m c t s l := by
  have h := Pipeline.eq_sum_fin_of_reset_step_apply_last (M := EReal)
    (fun n h (q : Fin 8 × Fin 64) => (outsAt0 m c n h).2.2.2 (ix2 q.1 q.2)) 4 (fun _ => 0)
    (fun t q => hitTerm m c t q.1 q.2)
    (fun t h0 q => by
      show (outsAt0 m c t.val t.isLt).2.2.2 (ix2 q.1 q.2) = _
      rw [cnt_first m c t h0]
      refine (cnt_step m c t _ q.1 q.2).trans ?_
      rw [zero_cnt])
    (fun t h0 q => by
      show (outsAt0 m c t.val t.isLt).2.2.2 (ix2 q.1 q.2) = _
      rw [cnt_next m c t h0]
      exact cnt_step m c t _ q.1 q.2)
    (le_of_eq N_0) t0_3 rfl (s, l)
  rw [zero_add] at h
  exact h

/-- The quotient after the pipeline. -/
theorem quot_array (c : Dev nD) : (dats m 0 c).arrAt 11 cfg0.N
    = (fun y : S1x1.Idx => Ideal.div (total (losses m c)) (total (hits m c))) := by
  refine (dats m 0 c).arrAt_eq_of_after_last 11 t0_3 (by decide +kernel) _ fun j => ?_
  blk_simp
  rw [after0_11]
  refine (quot_last m c t0_3 rfl j).trans ((quot_at _ _).trans (congr (congrArg Ideal.div ?_) ?_))
  · refine Eq.trans ?_ (sum_layout_off N_0 (losses m c))
    exact Finset.sum_congr rfl fun s _ => Finset.sum_congr rfl fun l _ => loss_sum m c s l
  · refine Eq.trans ?_ (sum_layout_off N_0 (hits m c))
    exact Finset.sum_congr rfl fun s _ => Finset.sum_congr rfl fun l _ => cnt_sum m c s l

end Cert.KernelIdeal.Pairs

end
-- ==== Proof.Tail.lean ====
/-
  The kernel's two results after the host operations that follow the region: the prediction of every ordered pair of
  distinct places, and the loss.
-/
module

public import proofs.«01_k».proof.Proof.Out

@[expose] public section

set_option maxRecDepth 16384

noncomputable section

namespace Cert.KernelIdeal.Pairs

open Cert.KernelIdeal Cert.KernelIdeal.Gen Idealize.ShloMosaic Idealize.ShloMosaic.TcCoe Idealize.SL.Sem Cert.PairModel
open Idealize.ShloMosaic.Pipeline (Dat)

variable (m : (ℓ : Loc nD τ sig) → Buf (Elt Ideal) ℓ)

/-- The off-diagonal entries of a batch's square of scores, row by row. -/
def offDiag (x : FVec Ideal S64x64x64 .f32) : FVec Ideal S258048x1 .f32 :=
  shapeCast _ (extractStridedSlice S64x63x64 ![0, 0, 1] (shapeCast _ (extractStridedSlice S64x4095 ![0, 0]
    (shapeCast _ x shapeCasts_S64x64x64_S64x4096) slices_S64x4096_S64x4095_0_0) shapeCasts_S64x4095_S64x63x65)
    slices_S64x63x65_S64x63x64_0_0_1) shapeCasts_S64x63x64_S258048x1

/-- Dropping the last entry of a square of side 64, cutting the rest into rows of 65 and dropping each row's first entry
    leaves the off-diagonal entries in order: where the entry in place `n` stood. -/
theorem place_arith (n : Nat) : (n / 64 % 63 * 65 + (1 + n % 64)) / 64 = n % 4032 / 63
    ∧ (n / 64 % 63 * 65 + (1 + n % 64)) % 64 = n % 4032 % 63 + (if n % 4032 / 63 ≤ n % 4032 % 63 then 1 else 0) := by
  have h : n % 4032 = n / 64 % 63 * 64 + n % 64 := by omega
  rw [h]
  obtain ⟨a, ea⟩ : ∃ a, a = n / 64 % 63 := ⟨_, rfl⟩
  obtain ⟨b, eb⟩ : ∃ b, b = n % 64 := ⟨_, rfl⟩
  have ha : a < 63 := by omega
  have hb : b < 64 := by omega
  rw [← ea, ← eb]
  clear h ea eb
  by_cases hab : 63 ≤ a + b
  · have e1 : (a * 64 + b) / 63 = a + 1 := by omega
    have e2 : (a * 64 + b) % 63 = a + b - 63 := by omega
    rw [e1, e2, if_neg (by omega)]
    omega
  · have e1 : (a * 64 + b) / 63 = a := by omega
    have e2 : (a * 64 + b) % 63 = a + b := by omega
    rw [e1, e2, if_pos (by omega)]
    omega

/-- An off-diagonal entry is the entry of its ordered pair. -/
theorem offDiag_at (x : FVec Ideal S64x64x64 .f32) (r : Fin 258048) :
    offDiag x (ix2 r 0) = x (ix3 (flatB r) (leftOf (flatP r)) (rightOf (flatP r))) := by
  pointwise [offDiag]
  obtain ⟨ha, hb⟩ := place_arith r.val
  refine congrArg x (congrArg₂ (ix3 (flatB r)) (Fin.ext ?_) (Fin.ext ?_))
  · exact ha
  · exact hb

/-- The first result buffer after the host operations. -/
theorem tail_pred (c : Dev nD) : Pipeline.afterTail₀ cfgs (dats m) 0 (V0 m) [hostOps1] c main_v14
    = offDiag ((dats m 0 c).arrAt 10 cfg0.N) := by
  show StableHlo.after hostOps1 _ (Proc.devRef .tc main_v14) = _
  after_results
  show offDiag (Pipeline.withArrays (cfgs 0).spec c (V0 m c) (fun w => (dats m 0 c).arrAt w (cfgs 0).N) (Proc.devRef .tc main_v9_0)) = _
  exact congrArg offDiag (Pipeline.withArrays_arr (cfgs 0).spec (by decide) c (V0 m c) (fun w => (dats m 0 c).arrAt w (cfgs 0).N) 10)

/-- The second result buffer after the host operations. -/
theorem tail_quot (c : Dev nD) : Pipeline.afterTail₀ cfgs (dats m) 0 (V0 m) [hostOps1] c main_v15
    = shapeCast _ ((dats m 0 c).arrAt 11 cfg0.N) shapeCasts_S1x1_S_ := by
  show StableHlo.after hostOps1 _ (Proc.devRef .tc main_v15) = _
  after_results
  show shapeCast _ (Pipeline.withArrays (cfgs 0).spec c (V0 m c) (fun w => (dats m 0 c).arrAt w (cfgs 0).N) (Proc.devRef .tc main_v9_1)) shapeCasts_S1x1_S_ = _
  exact congrArg (fun x => shapeCast _ x shapeCasts_S1x1_S_) (Pipeline.withArrays_arr (cfgs 0).spec (by decide) c (V0 m c) (fun w => (dats m 0 c).arrAt w (cfgs 0).N) 11)

/-- The kernel ends with its off-diagonal scores and its quotient, and leaves the arguments alone. -/
theorem run_named (ρ : Dev nD → PrngReg) : θ_run defs (onTc (τ := τ) (main (F := Ideal))) ⟨m, fun _ => 0, ρ⟩ fun r => ∀ c : Dev nD,
    r.2.mem ((c.tc : Thread nD τ).loc main_v14) = offDiag ((dats m 0 c).arrAt 10 cfg0.N)
    ∧ r.2.mem ((c.tc : Thread nD τ).loc main_v15) = shapeCast _ ((dats m 0 c).arrAt 11 cfg0.N) shapeCasts_S1x1_S_
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  Idealize.ShloMosaic.θ_run_mono (Idealize.ShloMosaic.θ_run_and (run_main m ρ) (unchanged m ρ)) fun r h c =>
    ⟨((h.1 c).2 main_v14 (Pipeline.mem_restRefs_of main_v14 (by decide) (by decide))).trans (tail_pred m c),
      ((h.1 c).2 main_v15 (Pipeline.mem_restRefs_of main_v15 (by decide) (by decide))).trans (tail_quot m c), h.2 c⟩

/-- A result of the kernel's first array. -/
theorem pred_result (c : Dev nD) (r : Fin 258048) : offDiag ((dats m 0 c).arrAt 10 cfg0.N) (ix2 r 0)
    = scores m c (flatB r) (leftOf (flatP r)) (rightOf (flatP r)) := by
  rw [offDiag_at, pred_array]
  rfl

/-- The kernel's second result. -/
theorem quot_result (c : Dev nD) (j : S_.Idx) : shapeCast S_ ((dats m 0 c).arrAt 11 cfg0.N) shapeCasts_S1x1_S_ j
    = Ideal.div (total (losses m c)) (total (hits m c)) := by
  rw [quot_array]
  rfl

end Cert.KernelIdeal.Pairs

end
-- ==== Proof.lean ====
/-
  The claims about the kernel and its reference: all runs end, the kernel read over the extended reals is the kernel's own
  text, and there it computes what the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefRun
public import proofs.«01_k».proof.Proof.Tail

public import Idealize.ShloMosaic.Adequacy
public import Idealize.ShloMosaic.Init

@[expose] public section

noncomputable section

namespace Cert.Proof

open Idealize.ShloMosaic Idealize.SL.Sem Cert.Kernel

/-- From memories that agree on the arguments, the kernel and the reference end with the same predictions and the same
    loss. -/
theorem same_results : Cert.algebraic_KernelIdeal_ReferenceIdeal (hKernelIdeal := Cert.KernelIdeal.Gen.facts)
    (hReferenceIdeal := Cert.ReferenceIdeal.Gen.facts) := by
  intro m g m' g' _ hagree
  refine ⟨_, _, Cert.KernelIdeal.Pairs.run_named m g,
    θ_run_mono (Cert.ReferenceIdeal.Pairs.run_named m' g') fun r h c => ⟨(h c).1.trans ?_, (h c).2.1.trans ?_, (h c).2.2⟩⟩
  · obtain ⟨h0, h1, h2, h3, h4, h5, h6⟩ := hagree c
    rw [h0, h3, h4, h5, h6]
    refine funext fun i => ?_
    have e : i = ix2 (i 0) 0 := by
      refine (eq_ix2 i).trans (congrArg (ix2 (i 0)) (Fin.ext ?_))
      have := (i 1).isLt
      exact Nat.lt_one_iff.mp this
    rw [e]
    exact (Cert.ReferenceIdeal.Pairs.refPred_at _ _ _ _ _ _).trans (Cert.KernelIdeal.Pairs.pred_result m c _).symm
  · obtain ⟨h0, h1, h2, h3, h4, h5, h6⟩ := hagree c
    rw [h0, h1, h2, h3, h4, h5, h6]
    refine funext fun j => ?_
    exact (Cert.ReferenceIdeal.Pairs.refLoss_at _ _ _ _ _ _ _ _).trans (Cert.KernelIdeal.Pairs.quot_result m c _).symm

/-- Every run of the reference ends, with the arguments unchanged and every counter at zero. -/
theorem reference_ends : Cert.quiescent_ReferenceIdeal (hReferenceIdeal := Cert.ReferenceIdeal.Gen.facts) := fun m g _ =>
  θ_run_mono (Cert.ReferenceIdeal.Pairs.run_named m g) fun r h => ⟨fun c => (h c).2.2, sem_eq_zero_of_no_sems (by decide) r.2⟩

/-- The five claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  reference_ends, trivial, same_results⟩

end Cert.Proof

end
